-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_range [hPre_tokens_in_range : Cert.Pre_tokens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_range [hPre_tokens_in_range : Cert.Pre_tokens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tokens_in_range [hKernelIdeal : Cert.KernelIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tokens_in_range [hReferenceIdeal : Cert.ReferenceIdeal.Facts] [hPre_tokens_in_range : Cert.Pre_tokens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_tokens_in_range [hKernelIdeal : Cert.KernelIdeal.Facts] [hReferenceIdeal : Cert.ReferenceIdeal.Facts] [hPre_tokens_in_range : Cert.Pre_tokens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tokens_in_range : Cert.Pre_tokens_in_range.Facts),
    quiescent_Kernel (hKernel := hKernel)
    ∧ quiescent_KernelIdeal (hKernelIdeal := hKernelIdeal)
    ∧ quiescent_KernelIdeal_pre_tokens_in_range (hKernelIdeal := hKernelIdeal) (hPre_tokens_in_range := hPre_tokens_in_range)
    ∧ quiescent_ReferenceIdeal (hReferenceIdeal := hReferenceIdeal)
    ∧ quiescent_ReferenceIdeal_pre_tokens_in_range (hReferenceIdeal := hReferenceIdeal) (hPre_tokens_in_range := hPre_tokens_in_range)
    ∧ preserves_Kernel_KernelIdeal
    ∧ algebraic_KernelIdeal_ReferenceIdeal_pre_tokens_in_range (hKernelIdeal := hKernelIdeal) (hReferenceIdeal := hReferenceIdeal) (hPre_tokens_in_range := hPre_tokens_in_range)
-- ==== Pre_tokens_in_range.lean ====
abbrev S64x256 : Shape := ⟨2, ![64, 256]⟩
abbrev S128x256 : Shape := ⟨2, ![128, 256]⟩
abbrev S256x1536 : Shape := ⟨2, ![256, 1536]⟩
abbrev S512x1536 : Shape := ⟨2, ![512, 1536]⟩
abbrev S2x1536 : Shape := ⟨2, ![2, 1536]⟩
abbrev S512x128 : Shape := ⟨2, ![512, 128]⟩
abbrev S128 : Shape := ⟨1, ![128]⟩
abbrev S_ : Shape := ⟨0, ![]⟩

class Facts : Prop where
  bcast_S_S64x256 : S_.BroadcastsInDim S64x256 (![] : Fin 0 → Fin S64x256.rank)

variable [Facts]

def fn {F : FTy → Type} [FloatOps F] (main_arg0 : IVec S64x256 32) (main_arg1 : FVec F S128x256 .f32) (main_arg2 : FVec F S256x1536 .f32) (main_arg3 : FVec F S512x1536 .f32) (main_arg4 : FVec F S2x1536 .f32) (main_arg5 : FVec F S512x128 .f32) (main_arg6 : FVec F S128 .f32) : IVec S64x256 1 :=
  let main_c : IVec S_ 32 := constantI S_ 32 0#32
  let main_v0 : IVec S64x256 32 := broadcastInDim S64x256 ![] bcast_S_S64x256 main_c
  let main_v1 : IVec S64x256 1 := cmpi .sge main_arg0 main_v0
  let main_c_0 : IVec S_ 32 := constantI S_ 32 128#32
  let main_v2 : IVec S64x256 32 := broadcastInDim S64x256 ![] bcast_S_S64x256 main_c_0
  let main_v3 : IVec S64x256 1 := cmpi .slt main_arg0 main_v2
  let main_v4 : IVec S64x256 1 := andi main_v1 main_v3
  main_v4
-- ==== Kernel.lean ====
abbrev S64x256 : Shape := ⟨2, ![64, 256]⟩
abbrev S128x256 : Shape := ⟨2, ![128, 256]⟩
abbrev S256x1536 : Shape := ⟨2, ![256, 1536]⟩
abbrev S512x1536 : Shape := ⟨2, ![512, 1536]⟩
abbrev S2x1536 : Shape := ⟨2, ![2, 1536]⟩
abbrev S512x128 : Shape := ⟨2, ![512, 128]⟩
abbrev S128 : Shape := ⟨1, ![128]⟩
abbrev S256x64 : Shape := ⟨2, ![256, 64]⟩
abbrev S1x1536 : Shape := ⟨2, ![1, 1536]⟩
abbrev S1x1024 : Shape := ⟨2, ![1, 1024]⟩
abbrev S_ : Shape := ⟨0, ![]⟩
abbrev S1x512 : Shape := ⟨2, ![1, 512]⟩
abbrev S1x128 : Shape := ⟨2, ![1, 128]⟩
abbrev S64x256x128 : Shape := ⟨3, ![64, 256, 128]⟩
abbrev S32x64 : Shape := ⟨2, ![32, 64]⟩
abbrev S64x32x128 : Shape := ⟨3, ![64, 32, 128]⟩
abbrev S128x1536 : Shape := ⟨2, ![128, 1536]⟩
abbrev S2x2048x1536 : Shape := ⟨3, ![2, 2048, 1536]⟩
abbrev S2048x128 : Shape := ⟨2, ![2048, 128]⟩
abbrev S64x512 : Shape := ⟨2, ![64, 512]⟩
abbrev S32x64x128 : Shape := ⟨3, ![32, 64, 128]⟩
abbrev S32x64x1 : Shape := ⟨3, ![32, 64, 1]⟩
abbrev S2048x1536 : Shape := ⟨2, ![2048, 1536]⟩
abbrev S1x2048x1536 : Shape := ⟨3, ![1, 2048, 1536]⟩
abbrev S512x1024 : Shape := ⟨2, ![512, 1024]⟩
abbrev S512x512 : Shape := ⟨2, ![512, 512]⟩
abbrev S1x64x1536 : Shape := ⟨3, ![1, 64, 1536]⟩
abbrev S64x1536 : Shape := ⟨2, ![64, 1536]⟩
abbrev S64x1024 : Shape := ⟨2, ![64, 1024]⟩
abbrev S64x128 : Shape := ⟨2, ![64, 128]⟩
abbrev S8x64x128 : Shape := ⟨3, ![8, 64, 128]⟩
abbrev S64x8x128 : Shape := ⟨3, ![64, 8, 128]⟩

abbrev nBuf : Space → Nat
  | .hbm => 17
  | .vmem => 17
  | .smem => 0
  | _ => 0

abbrev bufTy : (tb : Table) → Fin (tcTables nBuf tb) → BufTy
  | .hbm, ⟨0, _⟩ => ⟨S64x256, .i32⟩
  | .hbm, ⟨1, _⟩ => ⟨S128x256, .f32⟩
  | .hbm, ⟨2, _⟩ => ⟨S256x1536, .f32⟩
  | .hbm, ⟨3, _⟩ => ⟨S512x1536, .f32⟩
  | .hbm, ⟨4, _⟩ => ⟨S2x1536, .f32⟩
  | .hbm, ⟨5, _⟩ => ⟨S512x128, .f32⟩
  | .hbm, ⟨6, _⟩ => ⟨S128, .f32⟩
  | .hbm, ⟨7, _⟩ => ⟨S256x64, .i32⟩
  | .hbm, ⟨8, _⟩ => ⟨S1x1536, .f32⟩
  | .hbm, ⟨9, _⟩ => ⟨S1x1024, .f32⟩
  | .hbm, ⟨10, _⟩ => ⟨S_, .f32⟩
  | .hbm, ⟨11, _⟩ => ⟨S1x512, .f32⟩
  | .hbm, ⟨12, _⟩ => ⟨S1x1536, .f32⟩
  | .hbm, ⟨13, _⟩ => ⟨S1x1536, .f32⟩
  | .hbm, ⟨14, _⟩ => ⟨S1x512, .f32⟩
  | .hbm, ⟨15, _⟩ => ⟨S1x128, .f32⟩
  | .hbm, ⟨16, _⟩ => ⟨S64x256x128, .f32⟩
  | .local _ .vmem, ⟨0, _⟩ => ⟨S32x64, .i32⟩
  | .local _ .vmem, ⟨1, _⟩ => ⟨S32x64, .i32⟩
  | .local _ .vmem, ⟨2, _⟩ => ⟨S32x64, .i32⟩
  | .local _ .vmem, ⟨3, _⟩ => ⟨S32x64, .i32⟩
  | .local _ .vmem, ⟨4, _⟩ => ⟨S128x256, .f32⟩
  | .local _ .vmem, ⟨5, _⟩ => ⟨S256x1536, .f32⟩
  | .local _ .vmem, ⟨6, _⟩ => ⟨S512x1536, .f32⟩
  | .local _ .vmem, ⟨7, _⟩ => ⟨S1x1536, .f32⟩
  | .local _ .vmem, ⟨8, _⟩ => ⟨S1x512, .f32⟩
  | .local _ .vmem, ⟨9, _⟩ => ⟨S512x128, .f32⟩
  | .local _ .vmem, ⟨10, _⟩ => ⟨S1x128, .f32⟩
  | .local _ .vmem, ⟨11, _⟩ => ⟨S64x32x128, .f32⟩
  | .local _ .vmem, ⟨12, _⟩ => ⟨S64x32x128, .f32⟩
  | .local _ .vmem, ⟨13, _⟩ => ⟨S128x1536, .f32⟩
  | .local _ .vmem, ⟨14, _⟩ => ⟨S2x2048x1536, .bf16⟩
  | .local _ .vmem, ⟨15, _⟩ => ⟨S2048x128, .f32⟩
  | .local _ .vmem, ⟨16, _⟩ => ⟨S64x512, .f32⟩
  | _, _ => ⟨S64x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c2_i32 : BitVec 32 := 2#32
  let v0 : BitVec 32 := Scalar.remsi arg0 c2_i32
  let v22 : Index := Scalar.indexCast v0
  let c0_13 : Index := 0#32
  let c0_14 : Index := 0#32
  ![v22.toNat, 0, 0]
def k0_off2 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v45 : BitVec 32 := Scalar.subi c1_i32 v0
  let v46 : Index := Scalar.indexCast v45
  let c0_19 : Index := 0#32
  let c0_20 : Index := 0#32
  ![v46.toNat, 0, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let v50 : Index := Scalar.indexCast v0
  let c64 : Index := 64#32
  let c0_21 : Index := 0#32
  ![v50.toNat, 64, 0]
def k0_off4 (i : grid0.Coords) : Fin 3 → Nat :=
  let c1_i32_27 : BitVec 32 := 1#32
  let arg0 : BitVec 32 := BitVec.ofNat 32 (i 0).val
  let c2_i32 : BitVec 32 := 2#32
  let v0 : BitVec 32 := Scalar.remsi arg0 c2_i32
  let v73 : BitVec 32 := Scalar.subi c1_i32_27 v0
  let v74 : Index := Scalar.indexCast v73
  let c64_28 : Index := 64#32
  let c0_29 : Index := 0#32
  ![v74.toNat, 64, 0]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v78 : Index := Scalar.indexCast v0
  let c128 : Index := 128#32
  let c0_30 : Index := 0#32
  ![v78.toNat, 128, 0]
def k0_off6 (i : grid0.Coords) : Fin 3 → Nat :=
  let c1_i32_36 : BitVec 32 := 1#32
  let arg0 : BitVec 32 := BitVec.ofNat 32 (i 0).val
  let c2_i32 : BitVec 32 := 2#32
  let v0 : BitVec 32 := Scalar.remsi arg0 c2_i32
  let v101 : BitVec 32 := Scalar.subi c1_i32_36 v0
  let v102 : Index := Scalar.indexCast v101
  let c128_37 : Index := 128#32
  let c0_38 : Index := 0#32
  ![v102.toNat, 128, 0]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v106 : Index := Scalar.indexCast v0
  let c192 : Index := 192#32
  let c0_39 : Index := 0#32
  ![v106.toNat, 192, 0]
def k0_off8 (i : grid0.Coords) : Fin 3 → Nat :=
  let c1_i32_45 : BitVec 32 := 1#32
  let arg0 : BitVec 32 := BitVec.ofNat 32 (i 0).val
  let c2_i32 : BitVec 32 := 2#32
  let v0 : BitVec 32 := Scalar.remsi arg0 c2_i32
  let v129 : BitVec 32 := Scalar.subi c1_i32_45 v0
  let v130 : Index := Scalar.indexCast v129
  let c192_46 : Index := 192#32
  let c0_47 : Index := 0#32
  ![v130.toNat, 192, 0]
def k0_off9 (i : grid0.Coords) : Fin 3 → Nat :=
  let arg0 : BitVec 32 := BitVec.ofNat 32 (i 0).val
  let c2_i32 : BitVec 32 := 2#32
  let v0 : BitVec 32 := Scalar.remsi arg0 c2_i32
  let v134 : Index := Scalar.indexCast v0
  let c256 : Index := 256#32
  let c0_48 : Index := 0#32
  ![v134.toNat, 256, 0]
def k0_off10 (i : grid0.Coords) : Fin 3 → Nat :=
  let c1_i32_54 : BitVec 32 := 1#32
  let arg0 : BitVec 32 := BitVec.ofNat 32 (i 0).val
  let c2_i32 : BitVec 32 := 2#32
  let v0 : BitVec 32 := Scalar.remsi arg0 c2_i32
  let v157 : BitVec 32 := Scalar.subi c1_i32_54 v0
  let v158 : Index := Scalar.indexCast v157
  let c256_55 : Index := 256#32
  let c0_56 : Index := 0#32
  ![v158.toNat, 256, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v162 : Index := Scalar.indexCast v0
  let c320 : Index := 320#32
  let c0_57 : Index := 0#32
  ![v162.toNat, 320, 0]
def k0_off12 (i : grid0.Coords) : Fin 3 → Nat :=
  let c1_i32_63 : BitVec 32 := 1#32
  let arg0 : BitVec 32 := BitVec.ofNat 32 (i 0).val
  let c2_i32 : BitVec 32 := 2#32
  let v0 : BitVec 32 := Scalar.remsi arg0 c2_i32
  let v185 : BitVec 32 := Scalar.subi c1_i32_63 v0
  let v186 : Index := Scalar.indexCast v185
  let c320_64 : Index := 320#32
  let c0_65 : Index := 0#32
  ![v186.toNat, 320, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v190 : Index := Scalar.indexCast v0
  let c384 : Index := 384#32
  let c0_66 : Index := 0#32
  ![v190.toNat, 384, 0]
def k0_off14 (i : grid0.Coords) : Fin 3 → Nat :=
  let c1_i32_72 : BitVec 32 := 1#32
  let arg0 : BitVec 32 := BitVec.ofNat 32 (i 0).val
  let c2_i32 : BitVec 32 := 2#32
  let v0 : BitVec 32 := Scalar.remsi arg0 c2_i32
  let v213 : BitVec 32 := Scalar.subi c1_i32_72 v0
  let v214 : Index := Scalar.indexCast v213
  let c384_73 : Index := 384#32
  let c0_74 : Index := 0#32
  ![v214.toNat, 384, 0]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v218 : Index := Scalar.indexCast v0
  let c448 : Index := 448#32
  let c0_75 : Index := 0#32
  ![v218.toNat, 448, 0]
def k0_off16 (i : grid0.Coords) : Fin 3 → Nat :=
  let c1_i32_89 : BitVec 32 := 1#32
  let arg0 : BitVec 32 := BitVec.ofNat 32 (i 0).val
  let c2_i32 : BitVec 32 := 2#32
  let v0 : BitVec 32 := Scalar.remsi arg0 c2_i32
  let v251 : BitVec 32 := Scalar.subi c1_i32_89 v0
  let v252 : Index := Scalar.indexCast v251
  let c448_90 : Index := 448#32
  let c0_91 : Index := 0#32
  ![v252.toNat, 448, 0]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v256 : Index := Scalar.indexCast v0
  let c512 : Index := 512#32
  let c0_92 : Index := 0#32
  ![v256.toNat, 512, 0]
def k0_off18 (i : grid0.Coords) : Fin 3 → Nat :=
  let c1_i32_98 : BitVec 32 := 1#32
  let arg0 : BitVec 32 := BitVec.ofNat 32 (i 0).val
  let c2_i32 : BitVec 32 := 2#32
  let v0 : BitVec 32 := Scalar.remsi arg0 c2_i32
  let v279 : BitVec 32 := Scalar.subi c1_i32_98 v0
  let v280 : Index := Scalar.indexCast v279
  let c512_99 : Index := 512#32
  let c0_100 : Index := 0#32
  ![v280.toNat, 512, 0]
def k0_off19 (i : grid0.Coords) : Fin 3 → Nat :=
  let arg0 : BitVec 32 := BitVec.ofNat 32 (i 0).val
  let c2_i32 : BitVec 32 := 2#32
  let v0 : BitVec 32 := Scalar.remsi arg0 c2_i32
  let v284 : Index := Scalar.indexCast v0
  let c576 : Index := 576#32
  let c0_101 : Index := 0#32
  ![v284.toNat, 576, 0]
def k0_off20 (i : grid0.Coords) : Fin 3 → Nat :=
  let c1_i32_107 : BitVec 32 := 1#32
  let arg0 : BitVec 32 := BitVec.ofNat 32 (i 0).val
  let c2_i32 : BitVec 32 := 2#32
  let v0 : BitVec 32 := Scalar.remsi arg0 c2_i32
  let v307 : BitVec 32 := Scalar.subi c1_i32_107 v0
  let v308 : Index := Scalar.indexCast v307
  let c576_108 : Index := 576#32
  let c0_109 : Index := 0#32
  ![v308.toNat, 576, 0]
def k0_off21 (i : grid0.Coords) : Fin 3 → Nat :=
  let arg0 : BitVec 32 := BitVec.ofNat 32 (i 0).val
  let c2_i32 : BitVec 32 := 2#32
  let v0 : BitVec 32 := Scalar.remsi arg0 c2_i32
  let v312 : Index := Scalar.indexCast v0
  let c640 : Index := 640#32
  let c0_110 : Index := 0#32
  ![v312.toNat, 640, 0]
def k0_off22 (i : grid0.Coords) : Fin 3 → Nat :=
  let c1_i32_116 : BitVec 32 := 1#32
  let arg0 : BitVec 32 := BitVec.ofNat 32 (i 0).val
  let c2_i32 : BitVec 32 := 2#32
  let v0 : BitVec 32 := Scalar.remsi arg0 c2_i32
  let v335 : BitVec 32 := Scalar.subi c1_i32_116 v0
  let v336 : Index := Scalar.indexCast v335
  let c640_117 : Index := 640#32
  let c0_118 : Index := 0#32
  ![v336.toNat, 640, 0]
def k0_off23 (i : grid0.Coords) : Fin 3 → Nat :=
  let arg0 : BitVec 32 := BitVec.ofNat 32 (i 0).val
  let c2_i32 : BitVec 32 := 2#32
  let v0 : BitVec 32 := Scalar.remsi arg0 c2_i32
  let v340 : Index := Scalar.indexCast v0
  let c704 : Index := 704#32
  let c0_119 : Index := 0#32
  ![v340.toNat, 704, 0]
def k0_off24 (i : grid0.Coords) : Fin 3 → Nat :=
  let c1_i32_125 : BitVec 32 := 1#32
  let arg0 : BitVec 32 := BitVec.ofNat 32 (i 0).val
  let c2_i32 : BitVec 32 := 2#32
  let v0 : BitVec 32 := Scalar.remsi arg0 c2_i32
  let v363 : BitVec 32 := Scalar.subi c1_i32_125 v0
  let v364 : Index := Scalar.indexCast v363
  let c704_126 : Index := 704#32
  let c0_127 : Index := 0#32
  ![v364.toNat, 704, 0]
def k0_off25 (i : grid0.Coords) : Fin 3 → Nat :=
  let arg0 : BitVec 32 := BitVec.ofNat 32 (i 0).val
  let c2_i32 : BitVec 32 := 2#32
  let v0 : BitVec 32 := Scalar.remsi arg0 c2_i32
  let v368 : Index := Scalar.indexCast v0
  let c768 : Index := 768#32
  let c0_128 : Index := 0#32
  ![v368.toNat, 768, 0]
def k0_off26 (i : grid0.Coords) : Fin 3 → Nat :=
  let c1_i32_134 : BitVec 32 := 1#32
  let arg0 : BitVec 32 := BitVec.ofNat 32 (i 0).val
  let c2_i32 : BitVec 32 := 2#32
  let v0 : BitVec 32 := Scalar.remsi arg0 c2_i32
  let v391 : BitVec 32 := Scalar.subi c1_i32_134 v0
  let v392 : Index := Scalar.indexCast v391
  let c768_135 : Index := 768#32
  let c0_136 : Index := 0#32
  ![v392.toNat, 768, 0]
def k0_off27 (i : grid0.Coords) : Fin 3 → Nat :=
  let arg0 : BitVec 32 := BitVec.ofNat 32 (i 0).val
  let c2_i32 : BitVec 32 := 2#32
  let v0 : BitVec 32 := Scalar.remsi arg0 c2_i32
  let v396 : Index := Scalar.indexCast v0
  let c832 : Index := 832#32
  let c0_137 : Index := 0#32
  ![v396.toNat, 832, 0]
def k0_off28 (i : grid0.Coords) : Fin 3 → Nat :=
  let c1_i32_143 : BitVec 32 := 1#32
  let arg0 : BitVec 32 := BitVec.ofNat 32 (i 0).val
  let c2_i32 : BitVec 32 := 2#32
  let v0 : BitVec 32 := Scalar.remsi arg0 c2_i32
  let v419 : BitVec 32 := Scalar.subi c1_i32_143 v0
  let v420 : Index := Scalar.indexCast v419
  let c832_144 : Index := 832#32
  let c0_145 : Index := 0#32
  ![v420.toNat, 832, 0]
def k0_off29 (i : grid0.Coords) : Fin 3 → Nat :=
  let arg0 : BitVec 32 := BitVec.ofNat 32 (i 0).val
  let c2_i32 : BitVec 32 := 2#32
  let v0 : BitVec 32 := Scalar.remsi arg0 c2_i32
  let v424 : Index := Scalar.indexCast v0
  let c896 : Index := 896#32
  let c0_146 : Index := 0#32
  ![v424.toNat, 896, 0]
def k0_off30 (i : grid0.Coords) : Fin 3 → Nat :=
  let c1_i32_152 : BitVec 32 := 1#32
  let arg0 : BitVec 32 := BitVec.ofNat 32 (i 0).val
  let c2_i32 : BitVec 32 := 2#32
  let v0 : BitVec 32 := Scalar.remsi arg0 c2_i32
  let v447 : BitVec 32 := Scalar.subi c1_i32_152 v0
  let v448 : Index := Scalar.indexCast v447
  let c896_153 : Index := 896#32
  let c0_154 : Index := 0#32
  ![v448.toNat, 896, 0]
def k0_off31 (i : grid0.Coords) : Fin 3 → Nat :=
  let arg0 : BitVec 32 := BitVec.ofNat 32 (i 0).val
  let c2_i32 : BitVec 32 := 2#32
  let v0 : BitVec 32 := Scalar.remsi arg0 c2_i32
  let v452 : Index := Scalar.indexCast v0
  let c960 : Index := 960#32
  let c0_155 : Index := 0#32
  ![v452.toNat, 960, 0]
def k0_off32 (i : grid0.Coords) : Fin 3 → Nat :=
  let c1_i32_168 : BitVec 32 := 1#32
  let arg0 : BitVec 32 := BitVec.ofNat 32 (i 0).val
  let c2_i32 : BitVec 32 := 2#32
  let v0 : BitVec 32 := Scalar.remsi arg0 c2_i32
  let v485 : BitVec 32 := Scalar.subi c1_i32_168 v0
  let v486 : Index := Scalar.indexCast v485
  let c960_169 : Index := 960#32
  let c0_170 : Index := 0#32
  ![v486.toNat, 960, 0]
def k0_off33 (i : grid0.Coords) : Fin 3 → Nat :=
  let arg0 : BitVec 32 := BitVec.ofNat 32 (i 0).val
  let c2_i32 : BitVec 32 := 2#32
  let v0 : BitVec 32 := Scalar.remsi arg0 c2_i32
  let v490 : Index := Scalar.indexCast v0
  let c1024_171 : Index := 1024#32
  let c0_172 : Index := 0#32
  ![v490.toNat, 1024, 0]
def k0_off34 (i : grid0.Coords) : Fin 3 → Nat :=
  let c1_i32_178 : BitVec 32 := 1#32
  let arg0 : BitVec 32 := BitVec.ofNat 32 (i 0).val
  let c2_i32 : BitVec 32 := 2#32
  let v0 : BitVec 32 := Scalar.remsi arg0 c2_i32
  let v513 : BitVec 32 := Scalar.subi c1_i32_178 v0
  let v514 : Index := Scalar.indexCast v513
  let c1024_179 : Index := 1024#32
  let c0_180 : Index := 0#32
  ![v514.toNat, 1024, 0]
def k0_off35 (i : grid0.Coords) : Fin 3 → Nat :=
  let arg0 : BitVec 32 := BitVec.ofNat 32 (i 0).val
  let c2_i32 : BitVec 32 := 2#32
  let v0 : BitVec 32 := Scalar.remsi arg0 c2_i32
  let v518 : Index := Scalar.indexCast v0
  let c1088 : Index := 1088#32
  let c0_181 : Index := 0#32
  ![v518.toNat, 1088, 0]
def k0_off36 (i : grid0.Coords) : Fin 3 → Nat :=
  let c1_i32_187 : BitVec 32 := 1#32
  let arg0 : BitVec 32 := BitVec.ofNat 32 (i 0).val
  let c2_i32 : BitVec 32 := 2#32
  let v0 : BitVec 32 := Scalar.remsi arg0 c2_i32
  let v541 : BitVec 32 := Scalar.subi c1_i32_187 v0
  let v542 : Index := Scalar.indexCast v541
  let c1088_188 : Index := 1088#32
  let c0_189 : Index := 0#32
  ![v542.toNat, 1088, 0]
def k0_off37 (i : grid0.Coords) : Fin 3 → Nat :=
  let arg0 : BitVec 32 := BitVec.ofNat 32 (i 0).val
  let c2_i32 : BitVec 32 := 2#32
  let v0 : BitVec 32 := Scalar.remsi arg0 c2_i32
  let v546 : Index := Scalar.indexCast v0
  let c1152 : Index := 1152#32
  let c0_190 : Index := 0#32
  ![v546.toNat, 1152, 0]
def k0_off38 (i : grid0.Coords) : Fin 3 → Nat :=
  let c1_i32_196 : BitVec 32 := 1#32
  let arg0 : BitVec 32 := BitVec.ofNat 32 (i 0).val
  let c2_i32 : BitVec 32 := 2#32
  let v0 : BitVec 32 := Scalar.remsi arg0 c2_i32
  let v569 : BitVec 32 := Scalar.subi c1_i32_196 v0
  let v570 : Index := Scalar.indexCast v569
  let c1152_197 : Index := 1152#32
  let c0_198 : Index := 0#32
  ![v570.toNat, 1152, 0]
def k0_off39 (i : grid0.Coords) : Fin 3 → Nat :=
  let arg0 : BitVec 32 := BitVec.ofNat 32 (i 0).val
  let c2_i32 : BitVec 32 := 2#32
  let v0 : BitVec 32 := Scalar.remsi arg0 c2_i32
  let v574 : Index := Scalar.indexCast v0
  let c1216 : Index := 1216#32
  let c0_199 : Index := 0#32
  ![v574.toNat, 1216, 0]
def k0_off40 (i : grid0.Coords) : Fin 3 → Nat :=
  let c1_i32_205 : BitVec 32 := 1#32
  let arg0 : BitVec 32 := BitVec.ofNat 32 (i 0).val
  let c2_i32 : BitVec 32 := 2#32
  let v0 : BitVec 32 := Scalar.remsi arg0 c2_i32
  let v597 : BitVec 32 := Scalar.subi c1_i32_205 v0
  let v598 : Index := Scalar.indexCast v597
  let c1216_206 : Index := 1216#32
  let c0_207 : Index := 0#32
  ![v598.toNat, 1216, 0]
def k0_off41 (i : grid0.Coords) : Fin 3 → Nat :=
  let arg0 : BitVec 32 := BitVec.ofNat 32 (i 0).val
  let c2_i32 : BitVec 32 := 2#32
  let v0 : BitVec 32 := Scalar.remsi arg0 c2_i32
  let v602 : Index := Scalar.indexCast v0
  let c1280 : Index := 1280#32
  let c0_208 : Index := 0#32
  ![v602.toNat, 1280, 0]
def k0_off42 (i : grid0.Coords) : Fin 3 → Nat :=
  let c1_i32_214 : BitVec 32 := 1#32
  let arg0 : BitVec 32 := BitVec.ofNat 32 (i 0).val
  let c2_i32 : BitVec 32 := 2#32
  let v0 : BitVec 32 := Scalar.remsi arg0 c2_i32
  let v625 : BitVec 32 := Scalar.subi c1_i32_214 v0
  let v626 : Index := Scalar.indexCast v625
  let c1280_215 : Index := 1280#32
  let c0_216 : Index := 0#32
  ![v626.toNat, 1280, 0]
def k0_off43 (i : grid0.Coords) : Fin 3 → Nat :=
  let arg0 : BitVec 32 := BitVec.ofNat 32 (i 0).val
  let c2_i32 : BitVec 32 := 2#32
  let v0 : BitVec 32 := Scalar.remsi arg0 c2_i32
  let v630 : Index := Scalar.indexCast v0
  let c1344 : Index := 1344#32
  let c0_217 : Index := 0#32
  ![v630.toNat, 1344, 0]
def k0_off44 (i : grid0.Coords) : Fin 3 → Nat :=
  let c1_i32_223 : BitVec 32 := 1#32
  let arg0 : BitVec 32 := BitVec.ofNat 32 (i 0).val
  let c2_i32 : BitVec 32 := 2#32
  let v0 : BitVec 32 := Scalar.remsi arg0 c2_i32
  let v653 : BitVec 32 := Scalar.subi c1_i32_223 v0
  let v654 : Index := Scalar.indexCast v653
  let c1344_224 : Index := 1344#32
  let c0_225 : Index := 0#32
  ![v654.toNat, 1344, 0]
def k0_off45 (i : grid0.Coords) : Fin 3 → Nat :=
  let arg0 : BitVec 32 := BitVec.ofNat 32 (i 0).val
  let c2_i32 : BitVec 32 := 2#32
  let v0 : BitVec 32 := Scalar.remsi arg0 c2_i32
  let v658 : Index := Scalar.indexCast v0
  let c1408 : Index := 1408#32
  let c0_226 : Index := 0#32
  ![v658.toNat, 1408, 0]
def k0_off46 (i : grid0.Coords) : Fin 3 → Nat :=
  let c1_i32_232 : BitVec 32 := 1#32
  let arg0 : BitVec 32 := BitVec.ofNat 32 (i 0).val
  let c2_i32 : BitVec 32 := 2#32
  let v0 : BitVec 32 := Scalar.remsi arg0 c2_i32
  let v681 : BitVec 32 := Scalar.subi c1_i32_232 v0
  let v682 : Index := Scalar.indexCast v681
  let c1408_233 : Index := 1408#32
  let c0_234 : Index := 0#32
  ![v682.toNat, 1408, 0]
def k0_off47 (i : grid0.Coords) : Fin 3 → Nat :=
  let arg0 : BitVec 32 := BitVec.ofNat 32 (i 0).val
  let c2_i32 : BitVec 32 := 2#32
  let v0 : BitVec 32 := Scalar.remsi arg0 c2_i32
  let v686 : Index := Scalar.indexCast v0
  let c1472 : Index := 1472#32
  let c0_235 : Index := 0#32
  ![v686.toNat, 1472, 0]
def k0_off48 (i : grid0.Coords) : Fin 3 → Nat :=
  let c1_i32_248 : BitVec 32 := 1#32
  let arg0 : BitVec 32 := BitVec.ofNat 32 (i 0).val
  let c2_i32 : BitVec 32 := 2#32
  let v0 : BitVec 32 := Scalar.remsi arg0 c2_i32
  let v719 : BitVec 32 := Scalar.subi c1_i32_248 v0
  let v720 : Index := Scalar.indexCast v719
  let c1472_249 : Index := 1472#32
  let c0_250 : Index := 0#32
  ![v720.toNat, 1472, 0]
def k0_off49 (i : grid0.Coords) : Fin 3 → Nat :=
  let arg0 : BitVec 32 := BitVec.ofNat 32 (i 0).val
  let c2_i32 : BitVec 32 := 2#32
  let v0 : BitVec 32 := Scalar.remsi arg0 c2_i32
  let v724 : Index := Scalar.indexCast v0
  let c1536 : Index := 1536#32
  let c0_251 : Index := 0#32
  ![v724.toNat, 1536, 0]
def k0_off50 (i : grid0.Coords) : Fin 3 → Nat :=
  let c1_i32_257 : BitVec 32 := 1#32
  let arg0 : BitVec 32 := BitVec.ofNat 32 (i 0).val
  let c2_i32 : BitVec 32 := 2#32
  let v0 : BitVec 32 := Scalar.remsi arg0 c2_i32
  let v747 : BitVec 32 := Scalar.subi c1_i32_257 v0
  let v748 : Index := Scalar.indexCast v747
  let c1536_258 : Index := 1536#32
  let c0_259 : Index := 0#32
  ![v748.toNat, 1536, 0]
def k0_off51 (i : grid0.Coords) : Fin 3 → Nat :=
  let arg0 : BitVec 32 := BitVec.ofNat 32 (i 0).val
  let c2_i32 : BitVec 32 := 2#32
  let v0 : BitVec 32 := Scalar.remsi arg0 c2_i32
  let v752 : Index := Scalar.indexCast v0
  let c1600 : Index := 1600#32
  let c0_260 : Index := 0#32
  ![v752.toNat, 1600, 0]
def k0_off52 (i : grid0.Coords) : Fin 3 → Nat :=
  let c1_i32_266 : BitVec 32 := 1#32
  let arg0 : BitVec 32 := BitVec.ofNat 32 (i 0).val
  let c2_i32 : BitVec 32 := 2#32
  let v0 : BitVec 32 := Scalar.remsi arg0 c2_i32
  let v775 : BitVec 32 := Scalar.subi c1_i32_266 v0
  let v776 : Index := Scalar.indexCast v775
  let c1600_267 : Index := 1600#32
  let c0_268 : Index := 0#32
  ![v776.toNat, 1600, 0]
def k0_off53 (i : grid0.Coords) : Fin 3 → Nat :=
  let arg0 : BitVec 32 := BitVec.ofNat 32 (i 0).val
  let c2_i32 : BitVec 32 := 2#32
  let v0 : BitVec 32 := Scalar.remsi arg0 c2_i32
  let v780 : Index := Scalar.indexCast v0
  let c1664 : Index := 1664#32
  let c0_269 : Index := 0#32
  ![v780.toNat, 1664, 0]
def k0_off54 (i : grid0.Coords) : Fin 3 → Nat :=
  let c1_i32_275 : BitVec 32 := 1#32
  let arg0 : BitVec 32 := BitVec.ofNat 32 (i 0).val
  let c2_i32 : BitVec 32 := 2#32
  let v0 : BitVec 32 := Scalar.remsi arg0 c2_i32
  let v803 : BitVec 32 := Scalar.subi c1_i32_275 v0
  let v804 : Index := Scalar.indexCast v803
  let c1664_276 : Index := 1664#32
  let c0_277 : Index := 0#32
  ![v804.toNat, 1664, 0]
def k0_off55 (i : grid0.Coords) : Fin 3 → Nat :=
  let arg0 : BitVec 32 := BitVec.ofNat 32 (i 0).val
  let c2_i32 : BitVec 32 := 2#32
  let v0 : BitVec 32 := Scalar.remsi arg0 c2_i32
  let v808 : Index := Scalar.indexCast v0
  let c1728 : Index := 1728#32
  let c0_278 : Index := 0#32
  ![v808.toNat, 1728, 0]
def k0_off56 (i : grid0.Coords) : Fin 3 → Nat :=
  let c1_i32_284 : BitVec 32 := 1#32
  let arg0 : BitVec 32 := BitVec.ofNat 32 (i 0).val
  let c2_i32 : BitVec 32 := 2#32
  let v0 : BitVec 32 := Scalar.remsi arg0 c2_i32
  let v831 : BitVec 32 := Scalar.subi c1_i32_284 v0
  let v832 : Index := Scalar.indexCast v831
  let c1728_285 : Index := 1728#32
  let c0_286 : Index := 0#32
  ![v832.toNat, 1728, 0]
def k0_off57 (i : grid0.Coords) : Fin 3 → Nat :=
  let arg0 : BitVec 32 := BitVec.ofNat 32 (i 0).val
  let c2_i32 : BitVec 32 := 2#32
  let v0 : BitVec 32 := Scalar.remsi arg0 c2_i32
  let v836 : Index := Scalar.indexCast v0
  let c1792 : Index := 1792#32
  let c0_287 : Index := 0#32
  ![v836.toNat, 1792, 0]
def k0_off58 (i : grid0.Coords) : Fin 3 → Nat :=
  let c1_i32_293 : BitVec 32 := 1#32
  let arg0 : BitVec 32 := BitVec.ofNat 32 (i 0).val
  let c2_i32 : BitVec 32 := 2#32
  let v0 : BitVec 32 := Scalar.remsi arg0 c2_i32
  let v859 : BitVec 32 := Scalar.subi c1_i32_293 v0
  let v860 : Index := Scalar.indexCast v859
  let c1792_294 : Index := 1792#32
  let c0_295 : Index := 0#32
  ![v860.toNat, 1792, 0]
def k0_off59 (i : grid0.Coords) : Fin 3 → Nat :=
  let arg0 : BitVec 32 := BitVec.ofNat 32 (i 0).val
  let c2_i32 : BitVec 32 := 2#32
  let v0 : BitVec 32 := Scalar.remsi arg0 c2_i32
  let v864 : Index := Scalar.indexCast v0
  let c1856 : Index := 1856#32
  let c0_296 : Index := 0#32
  ![v864.toNat, 1856, 0]
def k0_off60 (i : grid0.Coords) : Fin 3 → Nat :=
  let c1_i32_302 : BitVec 32 := 1#32
  let arg0 : BitVec 32 := BitVec.ofNat 32 (i 0).val
  let c2_i32 : BitVec 32 := 2#32
  let v0 : BitVec 32 := Scalar.remsi arg0 c2_i32
  let v887 : BitVec 32 := Scalar.subi c1_i32_302 v0
  let v888 : Index := Scalar.indexCast v887
  let c1856_303 : Index := 1856#32
  let c0_304 : Index := 0#32
  ![v888.toNat, 1856, 0]
def k0_off61 (i : grid0.Coords) : Fin 3 → Nat :=
  let arg0 : BitVec 32 := BitVec.ofNat 32 (i 0).val
  let c2_i32 : BitVec 32 := 2#32
  let v0 : BitVec 32 := Scalar.remsi arg0 c2_i32
  let v892 : Index := Scalar.indexCast v0
  let c1920 : Index := 1920#32
  let c0_305 : Index := 0#32
  ![v892.toNat, 1920, 0]
def k0_off62 (i : grid0.Coords) : Fin 3 → Nat :=
  let c1_i32_311 : BitVec 32 := 1#32
  let arg0 : BitVec 32 := BitVec.ofNat 32 (i 0).val
  let c2_i32 : BitVec 32 := 2#32
  let v0 : BitVec 32 := Scalar.remsi arg0 c2_i32
  let v915 : BitVec 32 := Scalar.subi c1_i32_311 v0
  let v916 : Index := Scalar.indexCast v915
  let c1920_312 : Index := 1920#32
  let c0_313 : Index := 0#32
  ![v916.toNat, 1920, 0]
def k0_off63 (i : grid0.Coords) : Fin 3 → Nat :=
  let arg0 : BitVec 32 := BitVec.ofNat 32 (i 0).val
  let c2_i32 : BitVec 32 := 2#32
  let v0 : BitVec 32 := Scalar.remsi arg0 c2_i32
  let v920 : Index := Scalar.indexCast v0
  let c1984 : Index := 1984#32
  let c0_314 : Index := 0#32
  ![v920.toNat, 1984, 0]
def k0_off64 (i : grid0.Coords) : Fin 3 → Nat :=
  let c1_i32_327 : BitVec 32 := 1#32
  let arg0 : BitVec 32 := BitVec.ofNat 32 (i 0).val
  let c2_i32 : BitVec 32 := 2#32
  let v0 : BitVec 32 := Scalar.remsi arg0 c2_i32
  let v953 : BitVec 32 := Scalar.subi c1_i32_327 v0
  let v954 : Index := Scalar.indexCast v953
  let c1984_328 : Index := 1984#32
  let c0_329 : Index := 0#32
  ![v954.toNat, 1984, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c7_i32 : BitVec 32 := 7#32
  let v1 : BitVec 32 := Scalar.minsi v0 c7_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S64x256 : Shape := ⟨2, ![64, 256]⟩
abbrev S128x256 : Shape := ⟨2, ![128, 256]⟩
abbrev S256x1536 : Shape := ⟨2, ![256, 1536]⟩
abbrev S512x1536 : Shape := ⟨2, ![512, 1536]⟩
abbrev S2x1536 : Shape := ⟨2, ![2, 1536]⟩
abbrev S512x128 : Shape := ⟨2, ![512, 128]⟩
abbrev S128 : Shape := ⟨1, ![128]⟩
abbrev S_ : Shape := ⟨0, ![]⟩
abbrev S64x256x1 : Shape := ⟨3, ![64, 256, 1]⟩
abbrev S1 : Shape := ⟨1, ![1]⟩
abbrev S1x1x1 : Shape := ⟨3, ![1, 1, 1]⟩
abbrev S64x256x256 : Shape := ⟨3, ![64, 256, 256]⟩
abbrev S64x512 : Shape := ⟨2, ![64, 512]⟩
abbrev S256x64x256 : Shape := ⟨3, ![256, 64, 256]⟩
abbrev S256x64x512 : Shape := ⟨3, ![256, 64, 512]⟩
abbrev S1x64x256 : Shape := ⟨3, ![1, 64, 256]⟩
abbrev S64x1536 : Shape := ⟨2, ![64, 1536]⟩
abbrev S1x1536 : Shape := ⟨2, ![1, 1536]⟩
abbrev S1536 : Shape := ⟨1, ![1536]⟩
abbrev S1x64x512 : Shape := ⟨3, ![1, 64, 512]⟩
abbrev S64x256x512 : Shape := ⟨3, ![64, 256, 512]⟩
abbrev S64x256x128 : Shape := ⟨3, ![64, 256, 128]⟩
abbrev S1x1x128 : Shape := ⟨3, ![1, 1, 128]⟩

abbrev nBuf : Space → Nat
  | .hbm => 105
  | .vmem => 0
  | .smem => 0
  | _ => 0

abbrev bufTy : (tb : Table) → Fin (tcTables nBuf tb) → BufTy
  | .hbm, ⟨0, _⟩ => ⟨S64x256, .i32⟩
  | .hbm, ⟨1, _⟩ => ⟨S128x256, .f32⟩
  | .hbm, ⟨2, _⟩ => ⟨S256x1536, .f32⟩
  | .hbm, ⟨3, _⟩ => ⟨S512x1536, .f32⟩
  | .hbm, ⟨4, _⟩ => ⟨S2x1536, .f32⟩
  | .hbm, ⟨5, _⟩ => ⟨S512x128, .f32⟩
  | .hbm, ⟨6, _⟩ => ⟨S128, .f32⟩
  | .hbm, ⟨7, _⟩ => ⟨S_, .i32⟩
  | .hbm, ⟨8, _⟩ => ⟨S64x256, .i32⟩
  | .hbm, ⟨9, _⟩ => ⟨S64x256, .i1⟩
  | .hbm, ⟨10, _⟩ => ⟨S_, .i32⟩
  | .hbm, ⟨11, _⟩ => ⟨S64x256, .i32⟩
  | .hbm, ⟨12, _⟩ => ⟨S64x256, .i32⟩
  | .hbm, ⟨13, _⟩ => ⟨S64x256, .i32⟩
  | .hbm, ⟨14, _⟩ => ⟨S64x256x1, .i32⟩
  | .hbm, ⟨15, _⟩ => ⟨S1, .i32⟩
  | .hbm, ⟨16, _⟩ => ⟨S_, .i32⟩
  | .hbm, ⟨17, _⟩ => ⟨S64x256x1, .i32⟩
  | .hbm, ⟨18, _⟩ => ⟨S64x256x1, .i1⟩
  | .hbm, ⟨19, _⟩ => ⟨S1x1x1, .i32⟩
  | .hbm, ⟨20, _⟩ => ⟨S64x256x1, .i32⟩
  | .hbm, ⟨21, _⟩ => ⟨S64x256x1, .i1⟩
  | .hbm, ⟨22, _⟩ => ⟨S64x256x1, .i1⟩
  | .hbm, ⟨23, _⟩ => ⟨S_, .i1⟩
  | .hbm, ⟨24, _⟩ => ⟨S64x256, .i1⟩
  | .hbm, ⟨25, _⟩ => ⟨S64x256x256, .f32⟩
  | .hbm, ⟨26, _⟩ => ⟨S64x256x256, .i1⟩
  | .hbm, ⟨27, _⟩ => ⟨S_, .f32⟩
  | .hbm, ⟨28, _⟩ => ⟨S64x256x256, .f32⟩
  | .hbm, ⟨29, _⟩ => ⟨S64x256x256, .f32⟩
  | .hbm, ⟨30, _⟩ => ⟨S_, .f32⟩
  | .hbm, ⟨31, _⟩ => ⟨S64x512, .f32⟩
  | .hbm, ⟨32, _⟩ => ⟨S256x64x256, .f32⟩
  | .hbm, ⟨33, _⟩ => ⟨S_, .f32⟩
  | .hbm, ⟨34, _⟩ => ⟨S256x64x512, .f32⟩
  | .hbm, ⟨35, _⟩ => ⟨S_, .i32⟩
  | .hbm, ⟨36, _⟩ => ⟨S256x64x256, .f32⟩
  | .hbm, ⟨37, _⟩ => ⟨S256x1536, .f32⟩
  | .hbm, ⟨38, _⟩ => ⟨S2x1536, .f32⟩
  | .hbm, ⟨39, _⟩ => ⟨S512x1536, .f32⟩
  | .hbm, ⟨40, _⟩ => ⟨S_, .i32⟩
  | .hbm, ⟨41, _⟩ => ⟨S64x512, .f32⟩
  | .hbm, ⟨42, _⟩ => ⟨S256x64x512, .f32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S1x64x256, .f32⟩
  | .hbm, ⟨48, _⟩ => ⟨S64x256, .f32⟩
  | .hbm, ⟨49, _⟩ => ⟨S64x1536, .f32⟩
  | .hbm, ⟨50, _⟩ => ⟨S1x1536, .f32⟩
  | .hbm, ⟨51, _⟩ => ⟨S1536, .f32⟩
  | .hbm, ⟨52, _⟩ => ⟨S1x1536, .f32⟩
  | .hbm, ⟨53, _⟩ => ⟨S64x1536, .f32⟩
  | .hbm, ⟨54, _⟩ => ⟨S64x1536, .f32⟩
  | .hbm, ⟨55, _⟩ => ⟨S64x1536, .f32⟩
  | .hbm, ⟨56, _⟩ => ⟨S1x1536, .f32⟩
  | .hbm, ⟨57, _⟩ => ⟨S1536, .f32⟩
  | .hbm, ⟨58, _⟩ => ⟨S1x1536, .f32⟩
  | .hbm, ⟨59, _⟩ => ⟨S64x1536, .f32⟩
  | .hbm, ⟨60, _⟩ => ⟨S64x1536, .f32⟩
  | .hbm, ⟨61, _⟩ => ⟨S64x512, .f32⟩
  | .hbm, ⟨62, _⟩ => ⟨S64x512, .f32⟩
  | .hbm, ⟨63, _⟩ => ⟨S64x512, .f32⟩
  | .hbm, ⟨64, _⟩ => ⟨S64x512, .f32⟩
  | .hbm, ⟨65, _⟩ => ⟨S64x512, .f32⟩
  | .hbm, ⟨66, _⟩ => ⟨S64x512, .f32⟩
  | .hbm, ⟨67, _⟩ => ⟨S64x512, .f32⟩
  | .hbm, ⟨68, _⟩ => ⟨S64x512, .f32⟩
  | .hbm, ⟨69, _⟩ => ⟨S64x512, .f32⟩
  | .hbm, ⟨70, _⟩ => ⟨S_, .f32⟩
  | .hbm, ⟨71, _⟩ => ⟨S64x512, .f32⟩
  | .hbm, ⟨72, _⟩ => ⟨S64x512, .f32⟩
  | .hbm, ⟨73, _⟩ => ⟨S_, .f32⟩
  | .hbm, ⟨74, _⟩ => ⟨S64x512, .f32⟩
  | .hbm, ⟨75, _⟩ => ⟨S64x512, .f32⟩
  | .hbm, ⟨76, _⟩ => ⟨S64x512, .f32⟩
  | .hbm, ⟨77, _⟩ => ⟨S64x512, .f32⟩
  | .hbm, ⟨78, _⟩ => ⟨S64x512, .f32⟩
  | .hbm, ⟨79, _⟩ => ⟨S_, .f32⟩
  | .hbm, ⟨80, _⟩ => ⟨S64x512, .f32⟩
  | .hbm, ⟨81, _⟩ => ⟨S64x512, .f32⟩
  | .hbm, ⟨82, _⟩ => ⟨S_, .f32⟩
  | .hbm, ⟨83, _⟩ => ⟨S64x512, .f32⟩
  | .hbm, ⟨84, _⟩ => ⟨S64x512, .f32⟩
  | .hbm, ⟨85, _⟩ => ⟨S64x512, .f32⟩
  | .hbm, ⟨86, _⟩ => ⟨S64x512, .f32⟩
  | .hbm, ⟨87, _⟩ => ⟨S64x512, .f32⟩
  | .hbm, ⟨88, _⟩ => ⟨S64x512, .f32⟩
  | .hbm, ⟨89, _⟩ => ⟨S_, .f32⟩
  | .hbm, ⟨90, _⟩ => ⟨S64x512, .f32⟩
  | .hbm, ⟨91, _⟩ => ⟨S64x512, .f32⟩
  | .hbm, ⟨92, _⟩ => ⟨S64x512, .f32⟩
  | .hbm, ⟨93, _⟩ => ⟨S64x512, .f32⟩
  | .hbm, ⟨94, _⟩ => ⟨S1x64x512, .f32⟩
  | .hbm, ⟨95, _⟩ => ⟨S_, .i32⟩
  | .hbm, ⟨96, _⟩ => ⟨S_, .i32⟩
  | .hbm, ⟨97, _⟩ => ⟨S256x64x512, .f32⟩
  | .hbm, ⟨98, _⟩ => ⟨S_, .i32⟩
  | .hbm, ⟨99, _⟩ => ⟨S_, .i32⟩
  | .hbm, ⟨100, _⟩ => ⟨S64x256x512, .f32⟩
  | .hbm, ⟨101, _⟩ => ⟨S64x256x128, .f32⟩
  | .hbm, ⟨102, _⟩ => ⟨S1x1x128, .f32⟩
  | .hbm, ⟨103, _⟩ => ⟨S64x256x128, .f32⟩
  | .hbm, ⟨104, _⟩ => ⟨S64x256x128, .f32⟩
  | _, _ => ⟨S64x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_v2 : Ref sig .tc := ⟨.hbm, 32, rfl⟩
abbrev main_cst_0 : Ref sig .tc := ⟨.hbm, 33, rfl⟩
abbrev main_v3 : Ref sig .tc := ⟨.hbm, 34, rfl⟩
abbrev main_c : Ref sig .tc := ⟨.hbm, 35, rfl⟩
abbrev main_v4_0 : Ref sig .tc := ⟨.hbm, 36, rfl⟩
abbrev main_v4_1 : Ref sig .tc := ⟨.hbm, 37, rfl⟩
abbrev main_v4_2 : Ref sig .tc := ⟨.hbm, 38, rfl⟩
abbrev main_v4_3 : Ref sig .tc := ⟨.hbm, 39, rfl⟩
abbrev main_v4_4 : Ref sig .tc := ⟨.hbm, 40, rfl⟩
abbrev main_v4_5 : Ref sig .tc := ⟨.hbm, 41, rfl⟩
abbrev main_v4_6 : Ref sig .tc := ⟨.hbm, 42, rfl⟩
abbrev main_while0c_c_7 : Ref sig .tc := ⟨.hbm, 43, rfl⟩
abbrev main_while0c_v10 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_v0 : Ref sig .tc := ⟨.hbm, 47, rfl⟩
abbrev main_while0b_v10 : Ref sig .tc := ⟨.hbm, 48, rfl⟩
abbrev main_while0b_v11 : Ref sig .tc := ⟨.hbm, 49, rfl⟩
abbrev main_while0b_v12 : Ref sig .tc := ⟨.hbm, 50, rfl⟩
abbrev main_while0b_v13 : Ref sig .tc := ⟨.hbm, 51, rfl⟩
abbrev main_while0b_v14 : Ref sig .tc := ⟨.hbm, 52, rfl⟩
abbrev main_while0b_v15 : Ref sig .tc := ⟨.hbm, 53, rfl⟩
abbrev main_while0b_v16 : Ref sig .tc := ⟨.hbm, 54, rfl⟩
abbrev main_while0b_v17 : Ref sig .tc := ⟨.hbm, 55, rfl⟩
abbrev main_while0b_v18 : Ref sig .tc := ⟨.hbm, 56, rfl⟩
abbrev main_while0b_v19 : Ref sig .tc := ⟨.hbm, 57, rfl⟩
abbrev main_while0b_v20 : Ref sig .tc := ⟨.hbm, 58, rfl⟩
abbrev main_while0b_v21 : Ref sig .tc := ⟨.hbm, 59, rfl⟩
abbrev main_while0b_v22 : Ref sig .tc := ⟨.hbm, 60, rfl⟩
abbrev main_while0b_v23 : Ref sig .tc := ⟨.hbm, 61, rfl⟩
abbrev main_while0b_v24 : Ref sig .tc := ⟨.hbm, 62, rfl⟩
abbrev main_while0b_v25 : Ref sig .tc := ⟨.hbm, 63, rfl⟩
abbrev main_while0b_v26 : Ref sig .tc := ⟨.hbm, 64, rfl⟩
abbrev main_while0b_v27 : Ref sig .tc := ⟨.hbm, 65, rfl⟩
abbrev main_while0b_v28 : Ref sig .tc := ⟨.hbm, 66, rfl⟩
abbrev main_while0b_v29 : Ref sig .tc := ⟨.hbm, 67, rfl⟩
abbrev main_while0b_v30 : Ref sig .tc := ⟨.hbm, 68, rfl⟩
abbrev main_while0b_v31 : Ref sig .tc := ⟨.hbm, 69, rfl⟩
abbrev main_while0b_cst_7 : Ref sig .tc := ⟨.hbm, 70, rfl⟩
abbrev main_while0b_v32 : Ref sig .tc := ⟨.hbm, 71, rfl⟩
abbrev main_while0b_v33 : Ref sig .tc := ⟨.hbm, 72, rfl⟩
abbrev main_while0b_cst_8 : Ref sig .tc := ⟨.hbm, 73, rfl⟩
abbrev main_while0b_v34 : Ref sig .tc := ⟨.hbm, 74, rfl⟩
abbrev main_while0b_v35 : Ref sig .tc := ⟨.hbm, 75, rfl⟩
abbrev main_while0b_v36 : Ref sig .tc := ⟨.hbm, 76, rfl⟩
abbrev main_while0b_v37 : Ref sig .tc := ⟨.hbm, 77, rfl⟩
abbrev main_while0b_v38 : Ref sig .tc := ⟨.hbm, 78, rfl⟩
abbrev main_while0b_cst_9 : Ref sig .tc := ⟨.hbm, 79, rfl⟩
abbrev main_while0b_v39 : Ref sig .tc := ⟨.hbm, 80, rfl⟩
abbrev main_while0b_v40 : Ref sig .tc := ⟨.hbm, 81, rfl⟩
abbrev main_while0b_cst_10 : Ref sig .tc := ⟨.hbm, 82, rfl⟩
abbrev main_while0b_v41 : Ref sig .tc := ⟨.hbm, 83, rfl⟩
abbrev main_while0b_v42 : Ref sig .tc := ⟨.hbm, 84, rfl⟩
abbrev main_while0b_v43 : Ref sig .tc := ⟨.hbm, 85, rfl⟩
abbrev main_while0b_v44 : Ref sig .tc := ⟨.hbm, 86, rfl⟩
abbrev main_while0b_v45 : Ref sig .tc := ⟨.hbm, 87, rfl⟩
abbrev main_while0b_v46 : Ref sig .tc := ⟨.hbm, 88, rfl⟩
abbrev main_while0b_cst_11 : Ref sig .tc := ⟨.hbm, 89, rfl⟩
abbrev main_while0b_v47 : Ref sig .tc := ⟨.hbm, 90, rfl⟩
abbrev main_while0b_v48 : Ref sig .tc := ⟨.hbm, 91, rfl⟩
abbrev main_while0b_v49 : Ref sig .tc := ⟨.hbm, 92, rfl⟩
abbrev main_while0b_v50 : Ref sig .tc := ⟨.hbm, 93, rfl⟩
abbrev main_while0b_call2_v0 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_v51 : Ref sig .tc := ⟨.hbm, 97, rfl⟩
abbrev main_while0b_c_12 : Ref sig .tc := ⟨.hbm, 98, rfl⟩
abbrev main_while0b_v52 : Ref sig .tc := ⟨.hbm, 99, rfl⟩
abbrev main_v5 : Ref sig .tc := ⟨.hbm, 100, rfl⟩
abbrev main_v6 : Ref sig .tc := ⟨.hbm, 101, rfl⟩
abbrev main_v7 : Ref sig .tc := ⟨.hbm, 102, rfl⟩
abbrev main_v8 : Ref sig .tc := ⟨.hbm, 103, rfl⟩
abbrev main_v9 : Ref sig .tc := ⟨.hbm, 104, rfl⟩

abbrev nD : Nat := 1
abbrev τ : Topo := Topo.v7x

variable {F : FTy → Type} [FloatOps F]

abbrev main_while0_count : Scf.Loop 32 := ⟨0#32, 256#32, 1#32⟩
-- ==== Proof.Gru.State.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one time step computes -/

/-- One 64-row block of input projections, as the 32-bit values the step adds. -/
def wide (x : Vec F S1x64x1536 .bf16) : FVec F S64x1536 .f32 :=
  extf .f32 (shapeCast S64x1536 x shapeCasts_S1x64x1536_S64x1536) bitsLt_bf16_f32

/-- The two sigmoid gates of a step, side by side: update in columns 0..511, reset in columns 512..1023. -/
def gates (wzr : Vec F S512x1024 .f32) (h : Vec F S64x512 .f32) (x : Vec F S1x64x1536 .bf16) : FVec F S64x1024 .f32 :=
  logistic (addf (extractStridedSlice S64x1024 ![0, 0] (wide x) slices_S64x1536_o0_0_S64x1024)
    (matmul dot_S64x512_S512x1024_S64x1024_1_0_0_1_n_n none h wzr (constant S64x1024 .f32 0x00000000#32)))

/-- The candidate state of a step. -/
def cand (wzr : Vec F S512x1024 .f32) (wh : Vec F S512x512 .f32) (b : Vec F S1x512 .f32) (h : Vec F S64x512 .f32)
    (x : Vec F S1x64x1536 .bf16) : FVec F S64x512 .f32 :=
  tanh (addf (extractStridedSlice S64x512 ![0, 1024] (wide x) slices_S64x1536_o0_1024_S64x512)
    (mulf (extractStridedSlice S64x512 ![0, 512] (gates wzr h x) slices_S64x1024_o0_512_S64x512)
      (addf (matmul dot_S64x512_S512x512_S64x512_1_0_0_1_n_n none h wh (constant S64x512 .f32 0x00000000#32))
        (broadcastTo S64x512 (shapeCast S1x512 b shapeCasts_S1x512_S1x512) broadcasts_S1x512_S64x512))))

/-- The state after one step: the candidate, moved towards the old state by the update gate. -/
def step (wzr : Vec F S512x1024 .f32) (wh : Vec F S512x512 .f32) (b : Vec F S1x512 .f32) (h : Vec F S64x512 .f32)
    (x : Vec F S1x64x1536 .bf16) : FVec F S64x512 .f32 :=
  addf (cand wzr wh b h x)
    (mulf (extractStridedSlice S64x512 ![0, 0] (gates wzr h x) slices_S64x1024_o0_0_S64x512) (subf h (cand wzr wh b h x)))

/-- The states along a chunk: `hseq … t` is the state after `t` steps over the projections `X`. -/
def hseq (wzr : Vec F S512x1024 .f32) (wh : Vec F S512x512 .f32) (b : Vec F S1x512 .f32) (X : ℕ → Vec F S1x64x1536 .bf16)
    (h0 : Vec F S64x512 .f32) : ℕ → Vec F S64x512 .f32
  | 0 => h0
  | t + 1 => step wzr wh b (hseq wzr wh b X h0 t) (X t)

/-- The projections of one step's 64 one-hot rows: rows of the table, kept at sixteen bits. -/
def proj (T : Vec F S128x1536 .f32) (r : Vec F S64x128 .f32) : Vec F S1x64x1536 .bf16 :=
  shapeCast S1x64x1536 (truncf .bf16 (matmul dot_S64x128_S128x1536_S64x1536_1_0_0_1_n_n none r T
    (constant S64x1536 .f32 0x00000000#32)) bitsLt_bf16_f32) shapeCasts_S64x1536_S1x64x1536

/-- Eight consecutive states through the output layer, batch first. -/
def logits (wd : Vec F S512x128 .f32) (bd : Vec F S1x128 .f32) (h1 h2 h3 h4 h5 h6 h7 h8 : Vec F S64x512 .f32) :
    FVec F S64x8x128 .f32 :=
  transpose S64x8x128 [1, 0, 2] (shapeCast S8x64x128 (addf
    (matmul dot_S512x512_S512x128_S512x128_1_0_0_1_n_n none
      (concatenate S512x512 0 [⟨S64x512, h1⟩, ⟨S64x512, h2⟩, ⟨S64x512, h3⟩, ⟨S64x512, h4⟩, ⟨S64x512, h5⟩, ⟨S64x512, h6⟩, ⟨S64x512, h7⟩, ⟨S64x512, h8⟩]
        concatenates_S64x512_S64x512_S64x512_S64x512_S64x512_S64x512_S64x512_S64x512_S512x512_d0)
      wd (constant S512x128 .f32 0x00000000#32))
    (broadcastTo S512x128 (shapeCast S1x128 bd shapeCasts_S1x128_S1x128) broadcasts_S1x128_S512x128))
    shapeCasts_S512x128_S8x64x128) transposes_S8x64x128_p1_0_2_S64x8x128

/-- The `k`-th group of eight states `H (8k+1) … H (8k+8)` through the output layer. -/
def group (wd : Vec F S512x128 .f32) (bd : Vec F S1x128 .f32) (H : ℕ → Vec F S64x512 .f32) (k : ℕ) : FVec F S64x8x128 .f32 :=
  logits wd bd (H (8 * k + 1)) (H (8 * k + 2)) (H (8 * k + 3)) (H (8 * k + 4)) (H (8 * k + 5)) (H (8 * k + 6)) (H (8 * k + 7)) (H (8 * k + 8))

/-! ## Which half of the projection buffer a point reads, and which it fills -/

/-- The half point `i` reads: its number's remainder by two, as the kernel computes it. -/
def pin (i : grid0.Coords) : ℕ := (Scalar.indexCast (Scalar.remsi (BitVec.ofNat 32 (i 0).val) 2#32)).toNat

/-- The half point `i` fills for the next point. -/
def pout (i : grid0.Coords) : ℕ := (Scalar.indexCast (Scalar.subi 1#32 (Scalar.remsi (BitVec.ofNat 32 (i 0).val) 2#32))).toNat

/-- The two halves are different. -/
theorem pin_ne_pout : ∀ i : grid0.Coords, pin i ≠ pout i := by decide +kernel

/-! ## What the buffers hold, block by block -/

/-- `M` holds the blocks `X 0, …, X (n-1)` in its half `p`. -/
def Rows (M : Vec F S2x2048x1536 .bf16) (p n : ℕ) (X : ℕ → Vec F S1x64x1536 .bf16) : Prop :=
  ∀ t, t < n → ∀ h : ∀ a, (![p, 64 * t, 0] : Fin 3 → ℕ) a + S1x64x1536.size a ≤ S2x2048x1536.size a,
    VecWindow.window M ![p, 64 * t, 0] S1x64x1536.size h = X t

/-- Half `p` holds all 32 blocks of `X`, and half `q` the first `n` blocks of `Y`. -/
def MX (M : Vec F S2x2048x1536 .bf16) (p q n : ℕ) (X Y : ℕ → Vec F S1x64x1536 .bf16) : Prop :=
  Rows M p 32 X ∧ Rows M q n Y

/-- The output block holds its first `k` groups of eight time steps. -/
def Out (M : Vec F S64x32x128 .f32) (k : ℕ) (Z : ℕ → Vec F S64x8x128 .f32) : Prop :=
  ∀ t, t < k → ∀ h : ∀ a, (![0, 8 * t, 0] : Fin 3 → ℕ) a + S64x8x128.size a ≤ S64x32x128.size a,
    VecWindow.window M ![0, 8 * t, 0] S64x8x128.size h = Z t

/-- The one-hot buffer holds the 32 blocks `R`. -/
def Hot (O : Vec F S2048x128 .f32) (R : ℕ → Vec F S64x128 .f32) : Prop :=
  ∀ t, ∀ h : ∀ a, (![64 * t, 0] : Fin 2 → ℕ) a + S64x128.size a ≤ S2048x128.size a,
    VecWindow.window O ![64 * t, 0] S64x128.size h = R t

/-- Filling block `n` of the other half leaves the half read alone and adds one block. -/
theorem MX.put {M : Vec F S2x2048x1536 .bf16} {p q n : ℕ} {X Y : ℕ → Vec F S1x64x1536 .bf16} (hpq : p ≠ q)
    (h : MX M p q n X Y) : MX (VecWindow.put M ![q, 64 * n, 0] S1x64x1536.size (Y n)) p q (n + 1) X Y := by
  refine ⟨fun t ht hb => ?_, fun t ht hb => ?_⟩
  · rw [VecWindow.window_put_of_disjoint M ![q, 64 * n, 0] S1x64x1536.size ![p, 64 * t, 0] S1x64x1536.size hb (Y n) (0 : Fin 3)
      (by show p + 1 ≤ q ∨ q + 1 ≤ p; omega)]
    exact h.1 t ht hb
  · rcases Nat.lt_or_ge t n with hlt | hge
    · rw [VecWindow.window_put_of_disjoint M ![q, 64 * n, 0] S1x64x1536.size ![q, 64 * t, 0] S1x64x1536.size hb (Y n) (1 : Fin 3)
        (by show 64 * t + 64 ≤ 64 * n ∨ 64 * n + 64 ≤ 64 * t; omega)]
      exact h.2 t hlt hb
    · obtain rfl : t = n := by omega
      exact VecWindow.window_put_same M ![q, 64 * t, 0] S1x64x1536.size hb (Y t)

/-- Storing group `k` of the output block adds one group. -/
theorem Out.put {M : Vec F S64x32x128 .f32} {k : ℕ} {Z : ℕ → Vec F S64x8x128 .f32} (h : Out M k Z) :
    Out (VecWindow.put M ![0, 8 * k, 0] S64x8x128.size (Z k)) (k + 1) Z := by
  intro t ht hb
  rcases Nat.lt_or_ge t k with hlt | hge
  · rw [VecWindow.window_put_of_disjoint M ![0, 8 * k, 0] S64x8x128.size ![0, 8 * t, 0] S64x8x128.size hb (Z k) (1 : Fin 3)
      (by show 8 * t + 8 ≤ 8 * k ∨ 8 * k + 8 ≤ 8 * t; omega)]
    exact h t hlt hb
  · obtain rfl : t = k := by omega
    exact VecWindow.window_put_same M ![0, 8 * t, 0] S64x8x128.size hb (Z t)

/-! ## The same of a buffer's contents under the body's loads and stores -/

variable {c : Dev nD} {i : grid0.Coords}
variable {a12 : Memref sig .tc .vmem S2x2048x1536 .bf16} {a13 : Memref sig .tc .vmem S2048x128 .f32}
variable {a10 : Memref sig .tc .vmem S64x32x128 .f32}

/-- A load of block `t` of the half being read gives `X t`. -/
theorem MX.load {f : a12.view.ty.Contents (Elt F)} {p q n : ℕ} {X Y : ℕ → Vec F S1x64x1536 .bf16}
    (h : MX (a12.view.read (Elt F) f) p q n X Y) (t : ℕ) (ht : t < 32) {off : Fin 3 → ℕ}
    {inb : ∀ a, off a + S1x64x1536.size a ≤ S2x2048x1536.size a} (hoff : off = ![p, 64 * t, 0]) :
    a12.view.readAt (Elt F) (Rect.unit (s := S2x2048x1536) off S1x64x1536.size inb).toLoadRect f = X t := by
  have hb : ∀ a, (![p, 64 * t, 0] : Fin 3 → ℕ) a + S1x64x1536.size a ≤ S2x2048x1536.size a := hoff ▸ inb
  rw [View.readAt_unit a12.view f inb hoff hb]
  exact h.1 t ht hb

/-- A store of block `n` of the other half adds one block. -/
theorem MX.store {f : a12.view.ty.Contents (Elt F)} {L : List (View.Piece (Elt F) S2x2048x1536 .bf16)} {p q n : ℕ}
    {X Y : ℕ → Vec F S1x64x1536 .bf16} {off : Fin 3 → ℕ}
    {inb : ∀ a, off a + S1x64x1536.size a ≤ S2x2048x1536.size a} {w : Vec F S1x64x1536 .bf16}
    (hpq : p ≠ q) (hoff : off = ![q, 64 * n, 0]) (hw : w = Y n)
    (h : MX (a12.view.read (Elt F) (a12.view.writes (Elt F) f L)) p q n X Y) :
    MX (a12.view.read (Elt F) (a12.view.writes (Elt F) f (⟨Rect.unit off S1x64x1536.size inb, w⟩ :: L))) p q (n + 1) X Y := by
  rw [View.read_writes_cons_put a12.view f inb w L hoff, hw]
  exact h.put hpq

/-- A store of group `k` of the output block adds one group. -/
theorem Out.store {f : a10.view.ty.Contents (Elt F)} {L : List (View.Piece (Elt F) S64x32x128 .f32)} {k : ℕ}
    {Z : ℕ → Vec F S64x8x128 .f32} {off : Fin 3 → ℕ}
    {inb : ∀ a, off a + S64x8x128.size a ≤ S64x32x128.size a} {w : Vec F S64x8x128 .f32}
    (hoff : off = ![0, 8 * k, 0]) (hw : w = Z k)
    (h : Out (a10.view.read (Elt F) (a10.view.writes (Elt F) f L)) k Z) :
    Out (a10.view.read (Elt F) (a10.view.writes (Elt F) f (⟨Rect.unit off S64x8x128.size inb, w⟩ :: L))) (k + 1) Z := by
  rw [View.read_writes_cons_put a10.view f inb w L hoff, hw]
  exact h.put

/-- The first store of block `n` of the other half, into the contents the buffer came with. -/
theorem MX.store₀ {f : a12.view.ty.Contents (Elt F)} {p q n : ℕ}
    {X Y : ℕ → Vec F S1x64x1536 .bf16} {off : Fin 3 → ℕ}
    {inb : ∀ a, off a + S1x64x1536.size a ≤ S2x2048x1536.size a} {w : Vec F S1x64x1536 .bf16}
    (hpq : p ≠ q) (hoff : off = ![q, 64 * n, 0]) (hw : w = Y n) (h : MX (a12.view.read (Elt F) f) p q n X Y) :
    MX (a12.view.read (Elt F) (a12.view.writes (Elt F) f [⟨Rect.unit off S1x64x1536.size inb, w⟩])) p q (n + 1) X Y :=
  MX.store (L := []) hpq hoff hw h

/-- The first store of group `k` of the output block, into the contents the block came with. -/
theorem Out.store₀ {f : a10.view.ty.Contents (Elt F)} {k : ℕ}
    {Z : ℕ → Vec F S64x8x128 .f32} {off : Fin 3 → ℕ}
    {inb : ∀ a, off a + S64x8x128.size a ≤ S64x32x128.size a} {w : Vec F S64x8x128 .f32}
    (hoff : off = ![0, 8 * k, 0]) (hw : w = Z k) (h : Out (a10.view.read (Elt F) f) k Z) :
    Out (a10.view.read (Elt F) (a10.view.writes (Elt F) f [⟨Rect.unit off S64x8x128.size inb, w⟩])) (k + 1) Z :=
  Out.store (L := []) hoff hw h

/-- A load of the one-hot buffer's block `t` gives `R t`. -/
theorem Hot.load {f : a13.view.ty.Contents (Elt F)} {R : ℕ → Vec F S64x128 .f32}
    (h : Hot (a13.view.read (Elt F) f) R) (t : ℕ) {off : Fin 2 → ℕ}
    {inb : ∀ a, off a + S64x128.size a ≤ S2048x128.size a} (hoff : off = ![64 * t, 0]) :
    a13.view.readAt (Elt F) (Rect.unit (s := S2048x128) off S64x128.size inb).toLoadRect f = R t := by
  have hb : ∀ a, (![64 * t, 0] : Fin 2 → ℕ) a + S64x128.size a ≤ S2048x128.size a := hoff ▸ inb
  rw [View.readAt_unit a13.view f inb hoff hb]
  exact h t hb

/-- What the body holds while it runs its steps: the output layer's weights `wd` and bias `bd`; the output block with
    its first `k` groups of logits; the projection buffer with the current chunk's blocks `X` in the half being read and the
    first `n` of the next chunk's in the other; the next chunk's one-hot rows `R`. -/
def st (c : Dev nD) (i : grid0.Coords) (a8 : Memref sig .tc .vmem S512x128 .f32) (a9 : Memref sig .tc .vmem S1x128 .f32)
    (a10 : Memref sig .tc .vmem S64x32x128 .f32) (a12 : Memref sig .tc .vmem S2x2048x1536 .bf16) (a13 : Memref sig .tc .vmem S2048x128 .f32)
    (wd : Vec F S512x128 .f32) (bd : Vec F S1x128 .f32) (H : ℕ → Vec F S64x512 .f32) (X : ℕ → Vec F S1x64x1536 .bf16)
    (T : Vec F S128x1536 .f32) (R : ℕ → Vec F S64x128 .f32) (n k : ℕ) : sProp 𝕄 :=
  iprop(owns (c : Thread nD τ) a8 fullShare wd ∗ owns (c : Thread nD τ) a9 fullShare bd
    ∗ (∃ M, ⌜Out M k (group wd bd H)⌝ ∗ owns (c : Thread nD τ) a10 fullShare M)
    ∗ (∃ M, ⌜MX M (pin i) (pout i) n X (fun t => proj T (R t))⌝ ∗ owns (c : Thread nD τ) a12 fullShare M)
    ∗ (∃ O, ⌜Hot O R⌝ ∗ owns (c : Thread nD τ) a13 fullShare O))

/-- What the body holds, with each buffer's contents named. -/
theorem st_open {a8 : Memref sig .tc .vmem S512x128 .f32} {a9 : Memref sig .tc .vmem S1x128 .f32}
    {a10 : Memref sig .tc .vmem S64x32x128 .f32} {a12 : Memref sig .tc .vmem S2x2048x1536 .bf16} {a13 : Memref sig .tc .vmem S2048x128 .f32}
    {wd : Vec F S512x128 .f32} {bd : Vec F S1x128 .f32} {H : ℕ → Vec F S64x512 .f32} {X : ℕ → Vec F S1x64x1536 .bf16}
    {T : Vec F S128x1536 .f32} {R : ℕ → Vec F S64x128 .f32} {n k : ℕ} :
    st c i a8 a9 a10 a12 a13 wd bd H X T R n k ⊢ iprop(∃ f8 f9 f10 f12 f13,
      ⌜a8.view.read (Elt F) f8 = wd ∧ a9.view.read (Elt F) f9 = bd ∧ Out (a10.view.read (Elt F) f10) k (group wd bd H)
        ∧ MX (a12.view.read (Elt F) f12) (pin i) (pout i) n X (fun t => proj T (R t)) ∧ Hot (a13.view.read (Elt F) f13) R⌝
      ∗ (a8.view.loc (c : Thread nD τ) ↦[a8.view.set]{fullShare} f8) ∗ (a9.view.loc (c : Thread nD τ) ↦[a9.view.set]{fullShare} f9)
      ∗ (a10.view.loc (c : Thread nD τ) ↦[a10.view.set]{fullShare} f10) ∗ (a12.view.loc (c : Thread nD τ) ↦[a12.view.set]{fullShare} f12)
      ∗ (a13.view.loc (c : Thread nD τ) ↦[a13.view.set]{fullShare} f13)) := by
  unfold st owns
  iintro ⟨⟨%f8, %h8, H8⟩, ⟨%f9, %h9, H9⟩, ⟨%M10, %hM10, %f10, %h10, H10⟩, ⟨%M12, %hM12, %f12, %h12, H12⟩, ⟨%O, %hO, %f13, %h13, H13⟩⟩
  subst h10 h12 h13
  iexists f8; iexists f9; iexists f10; iexists f12; iexists f13
  isplitr
  · ipureintro; exact ⟨h8, h9, hM10, hM12, hO⟩
  isplitl [H8]; · iexact H8
  isplitl [H9]; · iexact H9
  isplitl [H10]; · iexact H10
  isplitl [H12]; · iexact H12
  iexact H13

/-- Buffers with such contents are what the body holds. -/
theorem st_close {a8 : Memref sig .tc .vmem S512x128 .f32} {a9 : Memref sig .tc .vmem S1x128 .f32}
    {wd : Vec F S512x128 .f32} {bd : Vec F S1x128 .f32} {H : ℕ → Vec F S64x512 .f32} {X : ℕ → Vec F S1x64x1536 .bf16}
    {T : Vec F S128x1536 .f32} {R : ℕ → Vec F S64x128 .f32} {n k : ℕ} {f8 f9 f10 f12 f13}
    (h8 : a8.view.read (Elt F) f8 = wd) (h9 : a9.view.read (Elt F) f9 = bd) (hO : Hot (a13.view.read (Elt F) f13) R)
    (h10 : Out (a10.view.read (Elt F) f10) k (group wd bd H))
    (h12 : MX (a12.view.read (Elt F) f12) (pin i) (pout i) n X (fun t => proj T (R t))) :
    iprop((a8.view.loc (c : Thread nD τ) ↦[a8.view.set]{fullShare} f8) ∗ (a9.view.loc (c : Thread nD τ) ↦[a9.view.set]{fullShare} f9)
      ∗ (a10.view.loc (c : Thread nD τ) ↦[a10.view.set]{fullShare} f10) ∗ (a12.view.loc (c : Thread nD τ) ↦[a12.view.set]{fullShare} f12)
      ∗ (a13.view.loc (c : Thread nD τ) ↦[a13.view.set]{fullShare} f13)) ⊢ st c i a8 a9 a10 a12 a13 wd bd H X T R n k := by
  unfold st owns
  iintro ⟨H8, H9, H10, H12, H13⟩
  isplitl [H8]; · iexists f8; isplitr; · ipureintro; exact h8
                  iexact H8
  isplitl [H9]; · iexists f9; isplitr; · ipureintro; exact h9
                  iexact H9
  isplitl [H10]; · iexists _; isplitr; · ipureintro; exact h10
                   iexists f10; isplitr; · ipureintro; rfl
                   iexact H10
  isplitl [H12]; · iexists _; isplitr; · ipureintro; exact h12
                   iexists f12; isplitr; · ipureintro; rfl
                   iexact H12
  iexists _; isplitr; · ipureintro; exact hO
  iexists f13; isplitr; · ipureintro; rfl
  iexact H13

/-- A continuation for the value `t` serves every value equal to `t`. -/
theorem any_value {α : Type} {S : sProp 𝕄} {K : α → sProp 𝕄} {t : α} :
    iprop(S -∗ K t) ⊢ iprop(∀ a, (⌜a = t⌝ ∗ S) -∗ K a) := by
  iintro H %a ⟨%h, HS⟩
  subst h
  iapply H
  iexact HS

end Cert.KernelIdeal.Gru

end
-- ==== Proof.Gru.Parts.lean ====
module
public import proofs.«01_k».proof.Proof.Gen.KernelIdeal.Frame
public import proofs.«01_k».proof.Proof.Gru.State
@[expose] public section
set_option maxRecDepth 16384
noncomputable section
namespace Cert.KernelIdeal.Gru
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
/-! Each printed piece of the body, as a step of what the body holds (`st`): how many blocks of the next chunk and how many groups of the output are stored before and after it, and which values it returns. -/

variable {c : Dev nD} {i : grid0.Coords}
variable {arg1 : Memref sig .tc .vmem S32x64 .i32} {harg1 : arg1.IsWhole}
variable {arg2 : Memref sig .tc .vmem S32x64 .i32} {harg2 : arg2.IsWhole}
variable {arg3 : Memref sig .tc .vmem S128x256 .f32} {harg3 : arg3.IsWhole}
variable {arg4 : Memref sig .tc .vmem S256x1536 .f32} {harg4 : arg4.IsWhole}
variable {arg5 : Memref sig .tc .vmem S512x1536 .f32} {harg5 : arg5.IsWhole}
variable {arg6 : Memref sig .tc .vmem S1x1536 .f32} {harg6 : arg6.IsWhole}
variable {arg7 : Memref sig .tc .vmem S1x512 .f32} {harg7 : arg7.IsWhole}
variable {arg8 : Memref sig .tc .vmem S512x128 .f32} {harg8 : arg8.IsWhole}
variable {arg9 : Memref sig .tc .vmem S1x128 .f32} {harg9 : arg9.IsWhole}
variable {arg10 : Memref sig .tc .vmem S64x32x128 .f32} {harg10 : arg10.IsWhole}
variable {arg11 : Memref sig .tc .vmem S128x1536 .f32} {harg11 : arg11.IsWhole}
variable {arg12 : Memref sig .tc .vmem S2x2048x1536 .bf16} {harg12 : arg12.IsWhole}
variable {arg13 : Memref sig .tc .vmem S2048x128 .f32} {harg13 : arg13.IsWhole}
variable {arg14 : Memref sig .tc .vmem S64x512 .f32} {harg14 : arg14.IsWhole}
variable {wzr : Vec F S512x1024 .f32} {wh : Vec F S512x512 .f32} {b : Vec F S1x512 .f32} {wd : Vec F S512x128 .f32} {bd : Vec F S1x128 .f32}
variable {T : Vec F S128x1536 .f32} {X : ℕ → Vec F S1x64x1536 .bf16} {R : ℕ → Vec F S64x128 .f32} {h0 : Vec F S64x512 .f32}
variable {H : ℕ → Vec F S64x512 .f32} (hH : H = hseq wzr wh b X h0)
include hH
/-- Piece 2 of the body stores blocks 0 to 1 of the next chunk; it returns states 1 and 2. -/
theorem part2 (v0 : BitVec 32) (E : Set ℕ) (K : _ → sProp 𝕄) :
    iprop(st c i arg8 arg9 arg10 arg12 arg13 wd bd H X T R 0 0 ∗ (st c i arg8 arg9 arg10 arg12 arg13 wd bd H X T R 2 0 -∗ K ⟨H 1, H 2⟩))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 arg13 harg13 arg14 harg14 v0 (H 0) wzr wh (k0_pay7 b) T (k0_pay10 (H 0) wzr (X 0)) (k0_pay11 (H 0) wzr (X 0)) (k0_pay12 (X 0)) (k0_pay13 (H 0) wh b)) K := by
  subst hH
  rw [k0_part2_eq_skeleton]; unfold k0_part2_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x1 : part2.sl.v51 (i := i) (arg12 := arg12) f12 = X 1 := MX.load h12 1 (by decide) rfl
  rw [x1]
  ihave Hk' := any_value $$ Hk
  iapply Hk'
  isplitr
  · ipureintro; rfl
  iapply st_close h8 h9 hO h10 (MX.store hpq rfl (congrArg (proj T) (Hot.load hO 1 rfl)) (MX.store₀ hpq rfl (congrArg (proj T) (Hot.load hO 0 rfl)) h12))
  isplitl [H8]; · iexact H8
  isplitl [H9]; · iexact H9
  isplitl [H10]; · iexact H10
  isplitl [H12]; · iexact H12
  iexact H13

/-- Piece 3 of the body stores block 2 of the next chunk; it returns state 3 and the values of a step in progress. -/
theorem part3 (v0 : BitVec 32) (E : Set ℕ) (K : _ → sProp 𝕄) :
    iprop(st c i arg8 arg9 arg10 arg12 arg13 wd bd H X T R 2 0 ∗ (st c i arg8 arg9 arg10 arg12 arg13 wd bd H X T R 3 0 -∗ K ⟨H 3, k0_pay22 wzr wh (k0_pay7 b) (H 2) (X 2) (X 3), k0_pay23 wzr wh (k0_pay7 b) (H 2) (X 2) (X 3)⟩))
      ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 2)) K := by
  subst hH
  rw [k0_part3_eq_skeleton]; unfold k0_part3_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x2 : arg12.view.readAt (Elt F) (Rect.unit (s := S2x2048x1536) (k0_off5 i) S1x64x1536.size (k0_off5_inb i)).toLoadRect f12 = X 2 := MX.load h12 2 (by decide) rfl
  have x3 : part3.sl.v107 (i := i) (arg12 := arg12) f12 = X 3 := MX.load h12 3 (by decide) rfl
  rw [x2, x3]
  ihave Hk' := any_value $$ Hk
  iapply Hk'
  isplitr
  · ipureintro; rfl
  iapply st_close h8 h9 hO h10 (MX.store₀ hpq rfl (congrArg (proj T) (Hot.load hO 2 rfl)) h12)
  isplitl [H8]; · iexact H8
  isplitl [H9]; · iexact H9
  isplitl [H10]; · iexact H10
  isplitl [H12]; · iexact H12
  iexact H13

/-- Piece 4 of the body stores blocks 3 to 4 of the next chunk; it returns states 4 and 5. -/
theorem part4 (v0 : BitVec 32) (E : Set ℕ) (K : _ → sProp 𝕄) :
    iprop(st c i arg8 arg9 arg10 arg12 arg13 wd bd H X T R 3 0 ∗ (st c i arg8 arg9 arg10 arg12 arg13 wd bd H X T R 5 0 -∗ K ⟨H 4, H 5⟩))
      ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 3) (k0_pay22 wzr wh (k0_pay7 b) (H 2) (X 2) (X 3)) (k0_pay23 wzr wh (k0_pay7 b) (H 2) (X 2) (X 3))) K := by
  subst hH
  rw [k0_part4_eq_skeleton]; unfold k0_part4_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x4 : part4.sl.v135 (i := i) (arg12 := arg12) f12 = X 4 := MX.load h12 4 (by decide) rfl
  rw [x4]
  ihave Hk' := any_value $$ Hk
  iapply Hk'
  isplitr
  · ipureintro; rfl
  iapply st_close h8 h9 hO h10 (MX.store hpq rfl (congrArg (proj T) (Hot.load hO 4 rfl)) (MX.store₀ hpq rfl (congrArg (proj T) (Hot.load hO 3 rfl)) h12))
  isplitl [H8]; · iexact H8
  isplitl [H9]; · iexact H9
  isplitl [H10]; · iexact H10
  isplitl [H12]; · iexact H12
  iexact H13

/-- Piece 5 of the body stores block 5 of the next chunk; it returns states 6 and 7. -/
theorem part5 (v0 : BitVec 32) (E : Set ℕ) (K : _ → sProp 𝕄) :
    iprop(st c i arg8 arg9 arg10 arg12 arg13 wd bd H X T R 5 0 ∗ (st c i arg8 arg9 arg10 arg12 arg13 wd bd H X T R 6 0 -∗ K ⟨H 6, H 7⟩))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 5)) K := by
  subst hH
  rw [k0_part5_eq_skeleton]; unfold k0_part5_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x5 : arg12.view.readAt (Elt F) (Rect.unit (s := S2x2048x1536) (k0_off11 i) S1x64x1536.size (k0_off11_inb i)).toLoadRect f12 = X 5 := MX.load h12 5 (by decide) rfl
  have x6 : part5.sl.v191 (i := i) (arg12 := arg12) f12 = X 6 := MX.load h12 6 (by decide) rfl
  rw [x5, x6]
  ihave Hk' := any_value $$ Hk
  iapply Hk'
  isplitr
  · ipureintro; rfl
  iapply st_close h8 h9 hO h10 (MX.store₀ hpq rfl (congrArg (proj T) (Hot.load hO 5 rfl)) h12)
  isplitl [H8]; · iexact H8
  isplitl [H9]; · iexact H9
  isplitl [H10]; · iexact H10
  isplitl [H12]; · iexact H12
  iexact H13

/-- Piece 6 of the body stores block 6 of the next chunk and the output's group 0; it returns state 8. -/
theorem part6 (v0 : BitVec 32) (E : Set ℕ) (K : _ → sProp 𝕄) :
    iprop(st c i arg8 arg9 arg10 arg12 arg13 wd bd H X T R 6 0 ∗ (st c i arg8 arg9 arg10 arg12 arg13 wd bd H X T R 7 1 -∗ K (H 8)))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 1) (H 2) (H 3) (H 4) (H 5) (H 6) (H 7)) K := by
  subst hH
  rw [k0_part6_eq_skeleton]; unfold k0_part6_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x7 : part6.sl.v219 (i := i) (arg12 := arg12) f12 = X 7 := MX.load h12 7 (by decide) rfl
  have w8 : arg8.view.readAt (Elt F) (Rect.unit ![0, 0] S512x128.size inb_S512x128_S512x128_0_0).toLoadRect f8 = wd :=
    (View.readAt_full arg8.view f8 _).trans h8
  have w9 : arg9.view.readAt (Elt F) (Rect.unit ![0, 0] S1x128.size inb_S1x128_S1x128_0_0).toLoadRect f9 = bd :=
    (View.readAt_full arg9.view f9 _).trans h9
  rw [x7, w8, w9]
  ihave Hk' := any_value $$ Hk
  iapply Hk'
  isplitr
  · ipureintro; rfl
  iapply st_close h8 h9 hO (Out.store₀ rfl rfl h10) (MX.store₀ hpq rfl (congrArg (proj T) (Hot.load hO 6 rfl)) h12)
  isplitl [H8]; · iexact H8
  isplitl [H9]; · iexact H9
  isplitl [H10]; · iexact H10
  isplitl [H12]; · iexact H12
  iexact H13

/-- Piece 7 of the body stores blocks 7 to 8 of the next chunk; it returns state 9 and the values of a step in progress. -/
theorem part7 (v0 : BitVec 32) (E : Set ℕ) (K : _ → sProp 𝕄) :
    iprop(st c i arg8 arg9 arg10 arg12 arg13 wd bd H X T R 7 1 ∗ (st c i arg8 arg9 arg10 arg12 arg13 wd bd H X T R 9 1 -∗ K ⟨H 9, k0_pay37 (X 9), k0_pay38 wzr wh (k0_pay7 b) (H 8) (X 8)⟩))
      ⊢ wp frame (wpE (defs₀ (F := F)) Variants.none c none) E (k0_part7 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 8)) K := by
  subst hH
  rw [k0_part7_eq_skeleton]; unfold k0_part7_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x8 : part7.sl.v257 (i := i) (arg12 := arg12) f12 = X 8 := MX.load h12 8 (by decide) rfl
  have x9 : part7.sl.v285 (i := i) (arg12 := arg12) f12 = X 9 := MX.load h12 9 (by decide) rfl
  rw [x8, x9]
  ihave Hk' := any_value $$ Hk
  iapply Hk'
  isplitr
  · ipureintro; rfl
  iapply st_close h8 h9 hO h10 (MX.store hpq rfl (congrArg (proj T) (Hot.load hO 8 rfl)) (MX.store₀ hpq rfl (congrArg (proj T) (Hot.load hO 7 rfl)) h12))
  isplitl [H8]; · iexact H8
  isplitl [H9]; · iexact H9
  isplitl [H10]; · iexact H10
  isplitl [H12]; · iexact H12
  iexact H13

/-- Piece 8 of the body stores block 9 of the next chunk; it returns states 10 and 11 and the values of a step in progress. -/
theorem part8 (v0 : BitVec 32) (E : Set ℕ) (K : _ → sProp 𝕄) :
    iprop(st c i arg8 arg9 arg10 arg12 arg13 wd bd H X T R 9 1 ∗ (st c i arg8 arg9 arg10 arg12 arg13 wd bd H X T R 10 1 -∗ K ⟨H 10, H 11, k0_pay42 T (R 10)⟩))
      ⊢ wp frame (wpE (defs₀ (F := F)) Variants.none c none) E (k0_part8 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 9) (k0_pay37 (X 9)) (k0_pay38 wzr wh (k0_pay7 b) (H 8) (X 8))) K := by
  subst hH
  rw [k0_part8_eq_skeleton]; unfold k0_part8_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x10 : part8.sl.v313 (i := i) (arg12 := arg12) f12 = X 10 := MX.load h12 10 (by decide) rfl
  have r10 : arg13.view.readAt (Elt F) (Rect.unit (s := S2048x128) ![640, 0] S64x128.size inb_S2048x128_S64x128_640_0).toLoadRect f13 = R 10 := Hot.load hO 10 rfl
  rw [x10, r10]
  ihave Hk' := any_value $$ Hk
  iapply Hk'
  isplitr
  · ipureintro; rfl
  iapply st_close h8 h9 hO h10 (MX.store₀ hpq rfl (congrArg (proj T) (Hot.load hO 9 rfl)) h12)
  isplitl [H8]; · iexact H8
  isplitl [H9]; · iexact H9
  isplitl [H10]; · iexact H10
  isplitl [H12]; · iexact H12
  iexact H13

/-- Piece 9 of the body stores blocks 10 to 11 of the next chunk; it returns state 12 and the values of a step in progress. -/
theorem part9 (v0 : BitVec 32) (E : Set ℕ) (K : _ → sProp 𝕄) :
    iprop(st c i arg8 arg9 arg10 arg12 arg13 wd bd H X T R 10 1 ∗ (st c i arg8 arg9 arg10 arg12 arg13 wd bd H X T R 12 1 -∗ K ⟨H 12, k0_pay46 (X 12), k0_pay47 wzr wh (k0_pay7 b) (H 11) (X 11), k0_pay48 wzr wh (k0_pay7 b) (H 11) (X 11), k0_pay49 (X 12)⟩))
      ⊢ wp frame (wpE (defs₀ (F := F)) Variants.none c none) E (k0_part9 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 11) (k0_pay42 T (R 10))) K := by
  subst hH
  rw [k0_part9_eq_skeleton]; unfold k0_part9_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x11 : part9.sl.v341 (i := i) (arg12 := arg12) f12 = X 11 := MX.load h12 11 (by decide) rfl
  have x12 : part9.sl.v369 (i := i) (arg12 := arg12) f12 = X 12 := MX.load h12 12 (by decide) rfl
  rw [x11, x12]
  ihave Hk' := any_value $$ Hk
  iapply Hk'
  isplitr
  · ipureintro; rfl
  iapply st_close h8 h9 hO h10 (MX.store hpq rfl (congrArg (proj T) (Hot.load hO 11 rfl)) (MX.store₀ hpq rfl rfl h12))
  isplitl [H8]; · iexact H8
  isplitl [H9]; · iexact H9
  isplitl [H10]; · iexact H10
  isplitl [H12]; · iexact H12
  iexact H13

/-- Piece 10 of the body stores block 12 of the next chunk; it returns states 13 and 14 and the values of a step in progress. -/
theorem part10 (v0 : BitVec 32) (E : Set ℕ) (K : _ → sProp 𝕄) :
    iprop(st c i arg8 arg9 arg10 arg12 arg13 wd bd H X T R 12 1 ∗ (st c i arg8 arg9 arg10 arg12 arg13 wd bd H X T R 13 1 -∗ K ⟨H 13, H 14, k0_pay53 T (R 13), Scalar.subi 1#32 v0⟩))
      ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 12) (k0_pay46 (X 12)) (k0_pay47 wzr wh (k0_pay7 b) (H 11) (X 11)) (k0_pay48 wzr wh (k0_pay7 b) (H 11) (X 11)) (k0_pay49 (X 12))) K := by
  subst hH
  rw [k0_part10_eq_skeleton]; unfold k0_part10_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x13 : part10.sl.v397 (i := i) (arg12 := arg12) f12 = X 13 := MX.load h12 13 (by decide) rfl
  have r13 : arg13.view.readAt (Elt F) (Rect.unit (s := S2048x128) ![832, 0] S64x128.size inb_S2048x128_S64x128_832_0).toLoadRect f13 = R 13 := Hot.load hO 13 rfl
  rw [x13, r13]
  ihave Hk' := any_value $$ Hk
  iapply Hk'
  isplitr
  · ipureintro; rfl
  iapply st_close h8 h9 hO h10 (MX.store₀ hpq rfl (congrArg (proj T) (Hot.load hO 12 rfl)) h12)
  isplitl [H8]; · iexact H8
  isplitl [H9]; · iexact H9
  isplitl [H10]; · iexact H10
  isplitl [H12]; · iexact H12
  iexact H13

/-- Piece 11 of the body stores blocks 13 to 14 of the next chunk; it returns state 15 and the values of a step in progress. -/
theorem part11 (v0 : BitVec 32) (v419 : BitVec 32) (E : Set ℕ) (K : _ → sProp 𝕄) :
    iprop(st c i arg8 arg9 arg10 arg12 arg13 wd bd H X T R 13 1 ∗ (st c i arg8 arg9 arg10 arg12 arg13 wd bd H X T R 15 1 -∗ K ⟨H 15, k0_pay57 (X 15), k0_pay58 wzr wh (k0_pay7 b) (H 14) (X 14), k0_pay59 wzr wh (k0_pay7 b) (H 14) (X 14) (X 15), k0_pay60 wzr wh (k0_pay7 b) (H 14) (X 14) (X 15)⟩))
      ⊢ wp frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 14) (k0_pay53 T (R 13)) v419) K := by
  subst hH
  rw [k0_part11_eq_skeleton]; unfold k0_part11_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x14 : part11.sl.v425 (i := i) (arg12 := arg12) f12 = X 14 := MX.load h12 14 (by decide) rfl
  have x15 : part11.sl.v453 (i := i) (arg12 := arg12) f12 = X 15 := MX.load h12 15 (by decide) rfl
  rw [x14, x15]
  ihave Hk' := any_value $$ Hk
  iapply Hk'
  isplitr
  · ipureintro; rfl
  iapply st_close h8 h9 hO h10 (MX.store hpq rfl (congrArg (proj T) (Hot.load hO 14 rfl)) (MX.store₀ hpq rfl rfl h12))
  isplitl [H8]; · iexact H8
  isplitl [H9]; · iexact H9
  isplitl [H10]; · iexact H10
  isplitl [H12]; · iexact H12
  iexact H13

/-- Piece 12 of the body stores block 15 of the next chunk and the output's group 1; it returns state 16 and the values of a step in progress. -/
theorem part12 (v0 : BitVec 32) (E : Set ℕ) (K : _ → sProp 𝕄) :
    iprop(st c i arg8 arg9 arg10 arg12 arg13 wd bd H X T R 15 1 ∗ (st c i arg8 arg9 arg10 arg12 arg13 wd bd H X T R 16 2 -∗ K ⟨H 16, k0_pay65 wh (k0_pay7 b) (H 15) (k0_pay57 (X 15)) (k0_pay58 wzr wh (k0_pay7 b) (H 14) (X 14)) (k0_pay59 wzr wh (k0_pay7 b) (H 14) (X 14) (X 15)) (k0_pay60 wzr wh (k0_pay7 b) (H 14) (X 14) (X 15)), k0_pay67 wzr (k0_pay7 b) (H 15) (k0_pay57 (X 15)) (k0_pay58 wzr wh (k0_pay7 b) (H 14) (X 14)) (k0_pay59 wzr wh (k0_pay7 b) (H 14) (X 14) (X 15)) (k0_pay60 wzr wh (k0_pay7 b) (H 14) (X 14) (X 15)) (X 16), k0_pay68 wzr (k0_pay7 b) (H 15) (k0_pay57 (X 15)) (k0_pay58 wzr wh (k0_pay7 b) (H 14) (X 14)) (k0_pay59 wzr wh (k0_pay7 b) (H 14) (X 14) (X 15)) (k0_pay60 wzr wh (k0_pay7 b) (H 14) (X 14) (X 15)) (X 16), k0_pay69 (X 16)⟩))
      ⊢ wp frame (wpE (defs₀ (F := F)) Variants.none c none) E (k0_part12 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 9) (H 10) (H 11) (H 12) (H 13) (H 14) (H 15) (k0_pay57 (X 15)) (k0_pay58 wzr wh (k0_pay7 b) (H 14) (X 14)) (k0_pay59 wzr wh (k0_pay7 b) (H 14) (X 14) (X 15)) (k0_pay60 wzr wh (k0_pay7 b) (H 14) (X 14) (X 15))) K := by
  subst hH
  rw [k0_part12_eq_skeleton]; unfold k0_part12_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have w8 : arg8.view.readAt (Elt F) (Rect.unit ![0, 0] S512x128.size inb_S512x128_S512x128_0_0).toLoadRect f8 = wd :=
    (View.readAt_full arg8.view f8 _).trans h8
  have w9 : arg9.view.readAt (Elt F) (Rect.unit ![0, 0] S1x128.size inb_S1x128_S1x128_0_0).toLoadRect f9 = bd :=
    (View.readAt_full arg9.view f9 _).trans h9
  have x16 : part12.sl.v491 (i := i) (arg12 := arg12) f12 = X 16 := MX.load h12 16 (by decide) rfl
  rw [w8, w9, x16]
  ihave Hk' := any_value $$ Hk
  iapply Hk'
  isplitr
  · ipureintro; rfl
  iapply st_close h8 h9 hO (Out.store₀ rfl rfl h10) (MX.store₀ hpq rfl (congrArg (proj T) (Hot.load hO 15 rfl)) h12)
  isplitl [H8]; · iexact H8
  isplitl [H9]; · iexact H9
  isplitl [H10]; · iexact H10
  isplitl [H12]; · iexact H12
  iexact H13

/-- Piece 13 of the body stores block 16 of the next chunk; it returns states 17 and 18 and the values of a step in progress. -/
theorem part13 (v0 : BitVec 32) (E : Set ℕ) (K : _ → sProp 𝕄) :
    iprop(st c i arg8 arg9 arg10 arg12 arg13 wd bd H X T R 16 2 ∗ (st c i arg8 arg9 arg10 arg12 arg13 wd bd H X T R 17 2 -∗ K ⟨H 17, H 18, k0_pay73 T (R 17)⟩))
      ⊢ wp frame (wpE (defs₀ (F := F)) Variants.none c none) E (k0_part13 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 16) (k0_pay65 wh (k0_pay7 b) (H 15) (k0_pay57 (X 15)) (k0_pay58 wzr wh (k0_pay7 b) (H 14) (X 14)) (k0_pay59 wzr wh (k0_pay7 b) (H 14) (X 14) (X 15)) (k0_pay60 wzr wh (k0_pay7 b) (H 14) (X 14) (X 15))) (k0_pay67 wzr (k0_pay7 b) (H 15) (k0_pay57 (X 15)) (k0_pay58 wzr wh (k0_pay7 b) (H 14) (X 14)) (k0_pay59 wzr wh (k0_pay7 b) (H 14) (X 14) (X 15)) (k0_pay60 wzr wh (k0_pay7 b) (H 14) (X 14) (X 15)) (X 16)) (k0_pay68 wzr (k0_pay7 b) (H 15) (k0_pay57 (X 15)) (k0_pay58 wzr wh (k0_pay7 b) (H 14) (X 14)) (k0_pay59 wzr wh (k0_pay7 b) (H 14) (X 14) (X 15)) (k0_pay60 wzr wh (k0_pay7 b) (H 14) (X 14) (X 15)) (X 16)) (k0_pay69 (X 16))) K := by
  subst hH
  rw [k0_part13_eq_skeleton]; unfold k0_part13_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x17 : part13.sl.v519 (i := i) (arg12 := arg12) f12 = X 17 := MX.load h12 17 (by decide) rfl
  have r17 : arg13.view.readAt (Elt F) (Rect.unit (s := S2048x128) ![1088, 0] S64x128.size inb_S2048x128_S64x128_1088_0).toLoadRect f13 = R 17 := Hot.load hO 17 rfl
  rw [x17, r17]
  ihave Hk' := any_value $$ Hk
  iapply Hk'
  isplitr
  · ipureintro; rfl
  iapply st_close h8 h9 hO h10 (MX.store₀ hpq rfl (congrArg (proj T) (Hot.load hO 16 rfl)) h12)
  isplitl [H8]; · iexact H8
  isplitl [H9]; · iexact H9
  isplitl [H10]; · iexact H10
  isplitl [H12]; · iexact H12
  iexact H13

/-- Piece 14 of the body stores blocks 17 to 18 of the next chunk; it returns state 19 and the values of a step in progress. -/
theorem part14 (v0 : BitVec 32) (E : Set ℕ) (K : _ → sProp 𝕄) :
    iprop(st c i arg8 arg9 arg10 arg12 arg13 wd bd H X T R 17 2 ∗ (st c i arg8 arg9 arg10 arg12 arg13 wd bd H X T R 19 2 -∗ K ⟨H 19, k0_pay79 wzr wh (k0_pay7 b) (H 18) (X 18) (X 19), k0_pay80 (X 19), k0_pay81 wzr wh (k0_pay7 b) (H 18) (X 18) (X 19)⟩))
      ⊢ wp frame (wpE (defs₀ (F := F)) Variants.none c none) E (k0_part14 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 18) (k0_pay73 T (R 17))) K := by
  subst hH
  rw [k0_part14_eq_skeleton]; unfold k0_part14_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x18 : part14.sl.v547 (i := i) (arg12 := arg12) f12 = X 18 := MX.load h12 18 (by decide) rfl
  have x19 : part14.sl.v575 (i := i) (arg12 := arg12) f12 = X 19 := MX.load h12 19 (by decide) rfl
  rw [x18, x19]
  ihave Hk' := any_value $$ Hk
  iapply Hk'
  isplitr
  · ipureintro; rfl
  iapply st_close h8 h9 hO h10 (MX.store hpq rfl (congrArg (proj T) (Hot.load hO 18 rfl)) (MX.store₀ hpq rfl rfl h12))
  isplitl [H8]; · iexact H8
  isplitl [H9]; · iexact H9
  isplitl [H10]; · iexact H10
  isplitl [H12]; · iexact H12
  iexact H13

/-- Piece 15 of the body stores blocks 19 to 20 of the next chunk; it returns states 20 and 21. -/
theorem part15 (v0 : BitVec 32) (E : Set ℕ) (K : _ → sProp 𝕄) :
    iprop(st c i arg8 arg9 arg10 arg12 arg13 wd bd H X T R 19 2 ∗ (st c i arg8 arg9 arg10 arg12 arg13 wd bd H X T R 21 2 -∗ K ⟨H 20, H 21⟩))
      ⊢ wp frame (wpE (defs₀ (F := F)) Variants.none c none) E (k0_part15 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 19) (k0_pay79 wzr wh (k0_pay7 b) (H 18) (X 18) (X 19)) (k0_pay80 (X 19)) (k0_pay81 wzr wh (k0_pay7 b) (H 18) (X 18) (X 19))) K := by
  subst hH
  rw [k0_part15_eq_skeleton]; unfold k0_part15_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x20 : part15.sl.v603 (i := i) (arg12 := arg12) f12 = X 20 := MX.load h12 20 (by decide) rfl
  rw [x20]
  ihave Hk' := any_value $$ Hk
  iapply Hk'
  isplitr
  · ipureintro; rfl
  iapply st_close h8 h9 hO h10 (MX.store hpq rfl (congrArg (proj T) (Hot.load hO 20 rfl)) (MX.store₀ hpq rfl (congrArg (proj T) (Hot.load hO 19 rfl)) h12))
  isplitl [H8]; · iexact H8
  isplitl [H9]; · iexact H9
  isplitl [H10]; · iexact H10
  isplitl [H12]; · iexact H12
  iexact H13

/-- Piece 16 of the body stores block 21 of the next chunk; it returns state 22 and the values of a step in progress. -/
theorem part16 (v0 : BitVec 32) (E : Set ℕ) (K : _ → sProp 𝕄) :
    iprop(st c i arg8 arg9 arg10 arg12 arg13 wd bd H X T R 21 2 ∗ (st c i arg8 arg9 arg10 arg12 arg13 wd bd H X T R 22 2 -∗ K ⟨H 22, k0_pay90 wzr wh (k0_pay7 b) (H 21) (X 21) (X 22), k0_pay91 wzr wh (k0_pay7 b) (H 21) (X 21) (X 22), k0_pay92 wzr wh (k0_pay7 b) (H 21) (X 21) (X 22)⟩))
      ⊢ wp frame (wpE (defs₀ (F := F)) Variants.none c none) E (k0_part16 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 21)) K := by
  subst hH
  rw [k0_part16_eq_skeleton]; unfold k0_part16_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x21 : arg12.view.readAt (Elt F) (Rect.unit (s := S2x2048x1536) (k0_off43 i) S1x64x1536.size (k0_off43_inb i)).toLoadRect f12 = X 21 := MX.load h12 21 (by decide) rfl
  have x22 : part16.sl.v659 (i := i) (arg12 := arg12) f12 = X 22 := MX.load h12 22 (by decide) rfl
  rw [x21, x22]
  ihave Hk' := any_value $$ Hk
  iapply Hk'
  isplitr
  · ipureintro; rfl
  iapply st_close h8 h9 hO h10 (MX.store₀ hpq rfl (congrArg (proj T) (Hot.load hO 21 rfl)) h12)
  isplitl [H8]; · iexact H8
  isplitl [H9]; · iexact H9
  isplitl [H10]; · iexact H10
  isplitl [H12]; · iexact H12
  iexact H13

/-- Piece 17 of the body stores block 22 of the next chunk and the output's group 2; it returns state 24. -/
theorem part17 (v0 : BitVec 32) (E : Set ℕ) (K : _ → sProp 𝕄) :
    iprop(st c i arg8 arg9 arg10 arg12 arg13 wd bd H X T R 22 2 ∗ (st c i arg8 arg9 arg10 arg12 arg13 wd bd H X T R 23 3 -∗ K (H 24)))
      ⊢ wp frame (wpE (defs₀ (F := F)) Variants.none c none) E (k0_part17 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 17) (H 18) (H 19) (H 20) (H 21) (H 22) (k0_pay90 wzr wh (k0_pay7 b) (H 21) (X 21) (X 22)) (k0_pay91 wzr wh (k0_pay7 b) (H 21) (X 21) (X 22)) (k0_pay92 wzr wh (k0_pay7 b) (H 21) (X 21) (X 22))) K := by
  subst hH
  rw [k0_part17_eq_skeleton]; unfold k0_part17_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x23 : part17.sl.v687 (i := i) (arg12 := arg12) f12 = X 23 := MX.load h12 23 (by decide) rfl
  have w8 : arg8.view.readAt (Elt F) (Rect.unit ![0, 0] S512x128.size inb_S512x128_S512x128_0_0).toLoadRect f8 = wd :=
    (View.readAt_full arg8.view f8 _).trans h8
  have w9 : arg9.view.readAt (Elt F) (Rect.unit ![0, 0] S1x128.size inb_S1x128_S1x128_0_0).toLoadRect f9 = bd :=
    (View.readAt_full arg9.view f9 _).trans h9
  rw [x23, w8, w9]
  ihave Hk' := any_value $$ Hk
  iapply Hk'
  isplitr
  · ipureintro; rfl
  iapply st_close h8 h9 hO (Out.store₀ rfl rfl h10) (MX.store₀ hpq rfl (congrArg (proj T) (Hot.load hO 22 rfl)) h12)
  isplitl [H8]; · iexact H8
  isplitl [H9]; · iexact H9
  isplitl [H10]; · iexact H10
  isplitl [H12]; · iexact H12
  iexact H13

/-- Piece 18 of the body stores blocks 23 to 24 of the next chunk; it returns state 25 and the values of a step in progress. -/
theorem part18 (v0 : BitVec 32) (E : Set ℕ) (K : _ → sProp 𝕄) :
    iprop(st c i arg8 arg9 arg10 arg12 arg13 wd bd H X T R 23 3 ∗ (st c i arg8 arg9 arg10 arg12 arg13 wd bd H X T R 25 3 -∗ K ⟨H 25, k0_pay100 (X 25)⟩))
      ⊢ wp frame (wpE (defs₀ (F := F)) Variants.none c none) E (k0_part18 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 24)) K := by
  subst hH
  rw [k0_part18_eq_skeleton]; unfold k0_part18_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x24 : part18.sl.v725 (i := i) (arg12 := arg12) f12 = X 24 := MX.load h12 24 (by decide) rfl
  have x25 : part18.sl.v753 (i := i) (arg12 := arg12) f12 = X 25 := MX.load h12 25 (by decide) rfl
  rw [x24, x25]
  ihave Hk' := any_value $$ Hk
  iapply Hk'
  isplitr
  · ipureintro; rfl
  iapply st_close h8 h9 hO h10 (MX.store hpq rfl (congrArg (proj T) (Hot.load hO 24 rfl)) (MX.store₀ hpq rfl (congrArg (proj T) (Hot.load hO 23 rfl)) h12))
  isplitl [H8]; · iexact H8
  isplitl [H9]; · iexact H9
  isplitl [H10]; · iexact H10
  isplitl [H12]; · iexact H12
  iexact H13

/-- Piece 19 of the body stores block 25 of the next chunk; it returns states 26 and 27 and the values of a step in progress. -/
theorem part19 (v0 : BitVec 32) (E : Set ℕ) (K : _ → sProp 𝕄) :
    iprop(st c i arg8 arg9 arg10 arg12 arg13 wd bd H X T R 25 3 ∗ (st c i arg8 arg9 arg10 arg12 arg13 wd bd H X T R 26 3 -∗ K ⟨H 26, H 27, (R 26)⟩))
      ⊢ wp frame (wpE (defs₀ (F := F)) Variants.none c none) E (k0_part19 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 25) (k0_pay100 (X 25))) K := by
  subst hH
  rw [k0_part19_eq_skeleton]; unfold k0_part19_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x26 : part19.sl.v781 (i := i) (arg12 := arg12) f12 = X 26 := MX.load h12 26 (by decide) rfl
  have r26 : arg13.view.readAt (Elt F) (Rect.unit (s := S2048x128) ![1664, 0] S64x128.size inb_S2048x128_S64x128_1664_0).toLoadRect f13 = R 26 := Hot.load hO 26 rfl
  rw [x26, r26]
  ihave Hk' := any_value $$ Hk
  iapply Hk'
  isplitr
  · ipureintro; rfl
  iapply st_close h8 h9 hO h10 (MX.store₀ hpq rfl (congrArg (proj T) (Hot.load hO 25 rfl)) h12)
  isplitl [H8]; · iexact H8
  isplitl [H9]; · iexact H9
  isplitl [H10]; · iexact H10
  isplitl [H12]; · iexact H12
  iexact H13

/-- Piece 20 of the body stores blocks 26 to 27 of the next chunk; it returns state 28 and the values of a step in progress. -/
theorem part20 (v0 : BitVec 32) (E : Set ℕ) (K : _ → sProp 𝕄) :
    iprop(st c i arg8 arg9 arg10 arg12 arg13 wd bd H X T R 26 3 ∗ (st c i arg8 arg9 arg10 arg12 arg13 wd bd H X T R 28 3 -∗ K ⟨H 28, k0_pay107 (X 28), k0_pay108 wzr wh (k0_pay7 b) (H 27) (X 27), (constant S64x512 .f32 0x00000000#32)⟩))
      ⊢ wp frame (wpE (defs₀ (F := F)) Variants.none c none) E (k0_part20 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 27) (R 26)) K := by
  subst hH
  rw [k0_part20_eq_skeleton]; unfold k0_part20_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x27 : part20.sl.v809 (i := i) (arg12 := arg12) f12 = X 27 := MX.load h12 27 (by decide) rfl
  have x28 : part20.sl.v837 (i := i) (arg12 := arg12) f12 = X 28 := MX.load h12 28 (by decide) rfl
  rw [x27, x28]
  ihave Hk' := any_value $$ Hk
  iapply Hk'
  isplitr
  · ipureintro; rfl
  iapply st_close h8 h9 hO h10 (MX.store hpq rfl (congrArg (proj T) (Hot.load hO 27 rfl)) (MX.store₀ hpq rfl rfl h12))
  isplitl [H8]; · iexact H8
  isplitl [H9]; · iexact H9
  isplitl [H10]; · iexact H10
  isplitl [H12]; · iexact H12
  iexact H13

/-- Piece 21 of the body stores block 28 of the next chunk; it returns states 29 and 30 and the values of a step in progress. -/
theorem part21 (v0 : BitVec 32) (E : Set ℕ) (K : _ → sProp 𝕄) :
    iprop(st c i arg8 arg9 arg10 arg12 arg13 wd bd H X T R 28 3 ∗ (st c i arg8 arg9 arg10 arg12 arg13 wd bd H X T R 29 3 -∗ K ⟨H 29, H 30, k0_pay112 T (R 29)⟩))
      ⊢ wp frame (wpE (defs₀ (F := F)) Variants.none c none) E (k0_part21 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 28) (k0_pay107 (X 28)) (k0_pay108 wzr wh (k0_pay7 b) (H 27) (X 27)) (constant S64x512 .f32 0x00000000#32)) K := by
  subst hH
  rw [k0_part21_eq_skeleton]; unfold k0_part21_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x29 : part21.sl.v865 (i := i) (arg12 := arg12) f12 = X 29 := MX.load h12 29 (by decide) rfl
  have r29 : arg13.view.readAt (Elt F) (Rect.unit (s := S2048x128) ![1856, 0] S64x128.size inb_S2048x128_S64x128_1856_0).toLoadRect f13 = R 29 := Hot.load hO 29 rfl
  rw [x29, r29]
  ihave Hk' := any_value $$ Hk
  iapply Hk'
  isplitr
  · ipureintro; rfl
  iapply st_close h8 h9 hO h10 (MX.store₀ hpq rfl (congrArg (proj T) (Hot.load hO 28 rfl)) h12)
  isplitl [H8]; · iexact H8
  isplitl [H9]; · iexact H9
  isplitl [H10]; · iexact H10
  isplitl [H12]; · iexact H12
  iexact H13

/-- Piece 22 of the body stores blocks 29 to 30 of the next chunk; it returns state 31 and the values of a step in progress. -/
theorem part22 (v0 : BitVec 32) (E : Set ℕ) (K : _ → sProp 𝕄) :
    iprop(st c i arg8 arg9 arg10 arg12 arg13 wd bd H X T R 29 3 ∗ (st c i arg8 arg9 arg10 arg12 arg13 wd bd H X T R 31 3 -∗ K ⟨H 31, k0_pay116 (X 31), k0_pay117 wzr wh (k0_pay7 b) (H 30) (X 30), k0_pay118 wzr wh (k0_pay7 b) (H 30) (X 30) (X 31)⟩))
      ⊢ wp frame (wpE (defs₀ (F := F)) Variants.none c none) E (k0_part22 i arg1 harg1 arg2 harg2 arg3 harg3 arg4 harg4 arg5 harg5 arg6 harg6 arg7 harg7 arg8 harg8 arg9 harg9 arg10 harg10 arg11 harg11 arg12 harg12 arg13 harg13 arg14 harg14 v0 wzr wh (k0_pay7 b) T (H 30) (k0_pay112 T (R 29))) K := by
  subst hH
  rw [k0_part22_eq_skeleton]; unfold k0_part22_skel
  iintro ⟨Hst, Hk⟩
  ihave Ho := st_open $$ Hst
  icases Ho with ⟨%f8, %f9, %f10, %f12, %f13, %hst, H8, H9, H10, H12, H13⟩
  obtain ⟨h8, h9, h10, h12, hO⟩ := hst
  have hpq := pin_ne_pout i
  sl_exec
  sl_step
  have x30 : part22.sl.v893 (i := i) (arg12 := arg12) f12 = X 30 := MX.load h12 30 (by decide) rfl
  have x31 : part22.sl.v921 (i := i) (arg12 := arg12) f12 = X 31 := MX.load h12 31 (by decide) rfl
  rw [x30, x31]
  ihave Hk' := any_value $$ Hk
  iapply Hk'
  isplitr
  · ipureintro; rfl
  iapply st_close h8 h9 hO h10 (MX.store hpq rfl (congrArg (proj T) (Hot.load hO 30 rfl)) (MX.store₀ hpq rfl rfl h12))
  isplitl [H8]; · iexact H8
  isplitl [H9]; · iexact H9
  isplitl [H10]; · iexact H10
  isplitl [H12]; · iexact H12
  iexact H13

end Cert.KernelIdeal.Gru
end
-- ==== Proof.Gru.Body.lean ====
module
public import proofs.«01_k».proof.Proof.Gen.KernelIdeal.Frame
public import proofs.«01_k».proof.Proof.Gru.Parts
public import Idealize.ShloMosaic.Lib.Pipeline.Value
@[expose] public section
set_option maxRecDepth 16384
noncomputable section
namespace Cert.KernelIdeal.Gru
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
/-! ## What a point starts from -/

/-- The condition the body tests at its start, as the kernel spells it: this is the first point. -/
def first (i : grid0.Coords) : Prop :=
  Scalar.cmpi .ne (Scalar.extui (Scalar.cmpi .eq (BitVec.ofNat 32 (i 0).val) 0#32)) 0#32 = 1#1

/-- The columns of the recurrent weights the two gates use. -/
def wzrOf (r : Vec F S512x1536 .f32) : Vec F S512x1024 .f32 :=
  VecWindow.window r ![0, 0] S512x1024.size inb_S512x1536_S512x1024_0_0

/-- The columns of the recurrent weights the candidate uses. -/
def whOf (r : Vec F S512x1536 .f32) : Vec F S512x512 .f32 :=
  VecWindow.window r ![0, 1024] S512x512.size inb_S512x1536_S512x512_0_1024

/-- Block `t` of the one-hot rows of a chunk of tokens: the 64 rows of its step `t` (zero when there is no such block). -/
def hot (x : Vec F S32x64 .i32) (t : ℕ) : Vec F S64x128 .f32 :=
  if h : ∀ a, (![64 * t, 0] : Fin 2 → ℕ) a + S64x128.size a ≤ S2048x128.size a then
    VecWindow.window (k0_pay6 x) ![64 * t, 0] S64x128.size h
  else constant S64x128 .f32 0x00000000#32

/-- Block `t` of the first chunk's projections, as the first point computes them all at once (zero when there is no
    such block). -/
def firstX (x : Vec F S32x64 .i32) (T : Vec F S128x1536 .f32) (t : ℕ) : Vec F S1x64x1536 .bf16 :=
  if h : ∀ a, (![0, 64 * t, 0] : Fin 3 → ℕ) a + S1x64x1536.size a ≤ S1x2048x1536.size a then
    VecWindow.window (k0_pay5 x T) ![0, 64 * t, 0] S1x64x1536.size h
  else constant S1x64x1536 .bf16 0x0000#16

/-- The buffers of the first seven inputs: this chunk's tokens, the next chunk's, the embedding, the input weights, the
    recurrent weights and the two rows of bias. -/
def ins (c : Dev nD) (a1 a2 : Memref sig .tc .vmem S32x64 .i32) (a3 : Memref sig .tc .vmem S128x256 .f32) (a4 : Memref sig .tc .vmem S256x1536 .f32)
    (a5 : Memref sig .tc .vmem S512x1536 .f32) (a6 : Memref sig .tc .vmem S1x1536 .f32) (a7 : Memref sig .tc .vmem S1x512 .f32)
    (x1 x2 : Vec F S32x64 .i32) (em : Vec F S128x256 .f32) (wk : Vec F S256x1536 .f32) (r : Vec F S512x1536 .f32) (ba : Vec F S1x1536 .f32)
    (b : Vec F S1x512 .f32) : sProp 𝕄 :=
  iprop(owns (c : Thread nD τ) a1 fullShare x1 ∗ owns (c : Thread nD τ) a2 fullShare x2 ∗ owns (c : Thread nD τ) a3 fullShare em
    ∗ owns (c : Thread nD τ) a4 fullShare wk ∗ owns (c : Thread nD τ) a5 fullShare r ∗ owns (c : Thread nD τ) a6 fullShare ba
    ∗ owns (c : Thread nD τ) a7 fullShare b)

/-- The one-hot buffer after its store holds the blocks `hot x`. -/
theorem Hot.of_store {a13 : Memref sig .tc .vmem S2048x128 .f32} {f : a13.view.ty.Contents (Elt F)} {x : Vec F S32x64 .i32}
    {w : Vec F S2048x128 .f32} (hw : w = k0_pay6 x) {inb} :
    Hot (a13.view.read (Elt F) (a13.view.writes (Elt F) f [⟨Rect.unit (s := S2048x128) ![0, 0] S2048x128.size inb, w⟩])) (hot x) := by
  subst hw
  intro t h
  rw [View.read_writes_full]
  unfold hot
  rw [dif_pos h]

/-- At the first point the half read is half 0. -/
theorem pin_first : ∀ i : grid0.Coords, first i → pin i = 0 := by unfold first; decide +kernel

/-- The projection buffer after the first point's store of a whole half holds that half's blocks. -/
theorem Rows.of_store {a12 : Memref sig .tc .vmem S2x2048x1536 .bf16} {f : a12.view.ty.Contents (Elt F)} {x : Vec F S32x64 .i32} {T : Vec F S128x1536 .f32}
    {w : Vec F S1x2048x1536 .bf16} (hw : w = k0_pay5 x T) {inb} :
    Rows (a12.view.read (Elt F) (a12.view.writes (Elt F) f [⟨Rect.unit (s := S2x2048x1536) ![0, 0, 0] S1x2048x1536.size inb, w⟩])) 0 32
      (firstX x T) := by
  intro t ht h
  subst hw
  have h' : ∀ a, (![0, 64 * t, 0] : Fin 3 → ℕ) a + S1x64x1536.size a ≤ S1x2048x1536.size a := by
    intro a; fin_cases a
    · show 0 + 1 ≤ 1; omega
    · show 64 * t + 64 ≤ 2048; omega
    · show 0 + 1536 ≤ 1536; omega
  rw [View.read_writes_cons_put a12.view f inb (k0_pay5 x T) [] rfl]
  rw [VecWindow.window_put_of_inside (s := S2x2048x1536) _ ![0, 0, 0] S1x2048x1536.size ![0, 64 * t, 0] S1x64x1536.size h (k0_pay5 x T) (fun a => by
    fin_cases a
    · show 0 ≤ 0 ∧ 0 + 1 ≤ 0 + 1; omega
    · show 0 ≤ 64 * t ∧ 64 * t + 64 ≤ 0 + 2048; omega
    · show 0 ≤ 0 ∧ 0 + 1536 ≤ 0 + 1536; omega)]
  unfold firstX
  rw [dif_pos h']
  rfl

/-- The projection buffer at the start of a point: the half being read is full, the other is still to be filled. -/
theorem MX.start {M : Vec F S2x2048x1536 .bf16} {p q : ℕ} {X Y : ℕ → Vec F S1x64x1536 .bf16} (h : Rows M p 32 X) : MX M p q 0 X Y :=
  ⟨h, fun t ht => absurd ht (Nat.not_lt_zero t)⟩

/-- The output block at the start of a point: nothing is asked of it. -/
theorem Out.start {M : Vec F S64x32x128 .f32} {Z : ℕ → Vec F S64x8x128 .f32} : Out M 0 Z := fun t ht => absurd ht (Nat.not_lt_zero t)

/-- A load of the whole of a buffer gives what it holds. -/
theorem load_whole {s : Shape} {e : EltTy} {a : Memref sig .tc .vmem s e} {f : a.view.ty.Contents (Elt F)} {x : Vec F s e}
    (h : a.view.read (Elt F) f = x) {off : Fin s.rank → ℕ} {inb : ∀ k, off k + s.size k ≤ s.size k} :
    a.view.readAt (Elt F) (Rect.unit off s.size inb).toLoadRect f = x := (View.readAt_full a.view f inb).trans h

/-- A load of part of a buffer gives that window of what it holds. -/
theorem load_part {s : Shape} {e : EltTy} {a : Memref sig .tc .vmem s e} {f : a.view.ty.Contents (Elt F)} {x : Vec F s e}
    (h : a.view.read (Elt F) f = x) {off size : Fin s.rank → ℕ} {inb : ∀ k, off k + size k ≤ s.size k} :
    a.view.readAt (Elt F) (Rect.unit off size inb).toLoadRect f = VecWindow.window x off size inb := by
  rw [View.readAt_unit a.view f inb rfl inb, h]

variable (c : Dev nD) (i : grid0.Coords)
variable (arg1 : Memref sig .tc .vmem S32x64 .i32) (harg1 : arg1.IsWhole)
variable (arg2 : Memref sig .tc .vmem S32x64 .i32) (harg2 : arg2.IsWhole)
variable (arg3 : Memref sig .tc .vmem S128x256 .f32) (harg3 : arg3.IsWhole)
variable (arg4 : Memref sig .tc .vmem S256x1536 .f32) (harg4 : arg4.IsWhole)
variable (arg5 : Memref sig .tc .vmem S512x1536 .f32) (harg5 : arg5.IsWhole)
variable (arg6 : Memref sig .tc .vmem S1x1536 .f32) (harg6 : arg6.IsWhole)
variable (arg7 : Memref sig .tc .vmem S1x512 .f32) (harg7 : arg7.IsWhole)
variable (arg8 : Memref sig .tc .vmem S512x128 .f32) (harg8 : arg8.IsWhole)
variable (arg9 : Memref sig .tc .vmem S1x128 .f32) (harg9 : arg9.IsWhole)
variable (arg10 : Memref sig .tc .vmem S64x32x128 .f32) (harg10 : arg10.IsWhole)
variable (arg11 : Memref sig .tc .vmem S128x1536 .f32) (harg11 : arg11.IsWhole)
variable (arg12 : Memref sig .tc .vmem S2x2048x1536 .bf16) (harg12 : arg12.IsWhole)
variable (arg13 : Memref sig .tc .vmem S2048x128 .f32) (harg13 : arg13.IsWhole)
variable (arg14 : Memref sig .tc .vmem S64x512 .f32) (harg14 : arg14.IsWhole)
variable (x1 x2 : Vec F S32x64 .i32) (em : Vec F S128x256 .f32) (wk : Vec F S256x1536 .f32) (r : Vec F S512x1536 .f32)
variable (ba : Vec F S1x1536 .f32) (b : Vec F S1x512 .f32) (wd : Vec F S512x128 .f32) (bd : Vec F S1x128 .f32)
variable (T : Vec F S128x1536 .f32) (X : ℕ → Vec F S1x64x1536 .bf16) (h0 : Vec F S64x512 .f32) (H : ℕ → Vec F S64x512 .f32)

/-- The body's first piece at a later point: the projection buffer's half being read holds `X`; the piece fills the one-hot buffer
    with the next chunk's rows and loads the weights, the state and the first block.-/
theorem part1_later (hc : ¬ first i) (E : Set ℕ) (K : _ → sProp 𝕄) :
    iprop(ins c arg1 arg2 arg3 arg4 arg5 arg6 arg7 x1 x2 em wk r ba b ∗ owns (c : Thread nD τ) arg8 fullShare wd ∗ owns (c : Thread nD τ) arg9 fullShare bd ∗ (∃ d, owns (c : Thread nD τ) arg10 fullShare d) ∗ owns (c : Thread nD τ) arg11 fullShare T ∗ (∃ M, ⌜Rows M (pin i) 32 X⌝ ∗ owns (c : Thread nD τ) arg12 fullShare M) ∗ (∃ d, owns (c : Thread nD τ) arg13 fullShare d) ∗ owns (c : Thread nD τ) arg14 fullShare h0
      ∗ ((ins c arg1 arg2 arg3 arg4 arg5 arg6 arg7 x1 x2 em wk r ba b ∗ owns (c : Thread nD τ) arg11 fullShare T ∗ owns (c : Thread nD τ) arg14 fullShare h0 ∗ st c i arg8 arg9 arg10 arg12 arg13 wd bd H X T (hot x2) 0 0)
        -∗ K ⟨Scalar.remsi (BitVec.ofNat 32 (i 0).val) 2#32, h0, wzrOf r, whOf r, k0_pay7 b, T, k0_pay10 h0 (wzrOf r) (X 0), k0_pay11 h0 (wzrOf r) (X 0), k0_pay12 (X 0), k0_pay13 h0 (whOf r) b⟩))
      ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14) K := by
  rw [k0_part1_eq_skeleton]; unfold k0_part1_skel ins owns
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, ⟨%f8, %h8, H8⟩, ⟨%f9, %h9, H9⟩, ⟨%d10, %f10, -, H10⟩, ⟨%f11, %h11, H11⟩, ⟨%M12, %hM12, %f12, %h12, H12⟩, ⟨%d13, %f13, -, H13⟩, ⟨%f14, %h14, H14⟩, Hk⟩
  subst h12
  sl_exec (disch := first | sl_exact hc)
  sl_step
  have w2 : arg2.view.readAt (Elt F) (Rect.unit (s := S32x64) ![0, 0] S32x64.size inb_S32x64_S32x64_0_0).toLoadRect f2 = x2 := load_whole h2
  have w5 : arg5.view.readAt (Elt F) (Rect.unit (s := S512x1536) ![0, 0] S512x1024.size inb_S512x1536_S512x1024_0_0).toLoadRect f5 = wzrOf r := load_part h5
  have w5' : arg5.view.readAt (Elt F) (Rect.unit (s := S512x1536) ![0, 1024] S512x512.size inb_S512x1536_S512x512_0_1024).toLoadRect f5 = whOf r := load_part h5
  have w7 : arg7.view.readAt (Elt F) (Rect.unit (s := S1x512) ![0, 0] S1x512.size inb_S1x512_S1x512_0_0).toLoadRect f7 = b := load_whole h7
  have w14 : arg14.view.readAt (Elt F) (Rect.unit (s := S64x512) ![0, 0] S64x512.size inb_S64x512_S64x512_0_0).toLoadRect f14 = h0 := load_whole h14
  have w11 : arg11.view.readAt (Elt F) (Rect.unit (s := S128x1536) ![0, 0] S128x1536.size inb_S128x1536_S128x1536_0_0).toLoadRect f11 = T := load_whole h11
  have t12 := hM12
  have w12 : arg12.view.readAt (Elt F) (Rect.unit (s := S2x2048x1536) (k0_off1 i) S1x64x1536.size (k0_off1_inb i)).toLoadRect f12 = X 0 := MX.load (MX.start (q := pout i) (Y := X) t12) 0 (by decide) rfl
  have t11 := h11
  have t14 := h14
  ihave Hk' := any_value $$ Hk
  iapply Hk'
  isplitr
  · ipureintro; rw [w5, w5', w7, w14, w11, w12]; rfl
  isplitl [H1 H2 H3 H4 H5 H6 H7]
  · isplitl [H1]; · iexists f1; isplitr; · ipureintro; exact h1
                    iexact H1
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists f6; isplitr; · ipureintro; exact h6
                    iexact H6
    iexists f7; isplitr; · ipureintro; exact h7
    iexact H7
  isplitl [H11]; · iexists _; isplitr; · ipureintro; exact t11
                   iexact H11
  isplitl [H14]; · iexists _; isplitr; · ipureintro; exact t14
                   iexact H14
  iapply st_close h8 h9 (Hot.of_store (congrArg k0_pay6 w2)) Out.start (MX.start t12)
  isplitl [H8]; · iexact H8
  isplitl [H9]; · iexact H9
  isplitl [H10]; · iexact H10
  isplitl [H12]; · iexact H12
  iexact H13

/-- The body's first piece at the first point: it makes the table, the zero state and the first chunk's projections, and then does
    what it does at a later point. -/
theorem part1_first (hc : first i) (E : Set ℕ) (K : _ → sProp 𝕄) :
    iprop(ins c arg1 arg2 arg3 arg4 arg5 arg6 arg7 x1 x2 em wk r ba b ∗ owns (c : Thread nD τ) arg8 fullShare wd ∗ owns (c : Thread nD τ) arg9 fullShare bd ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ ((ins c arg1 arg2 arg3 arg4 arg5 arg6 arg7 x1 x2 em wk r ba b ∗ owns (c : Thread nD τ) arg11 fullShare (k0_pay3 em wk ba) ∗ owns (c : Thread nD τ) arg14 fullShare k0_pay4 ∗ st c i arg8 arg9 arg10 arg12 arg13 wd bd H (firstX x1 (k0_pay3 em wk ba)) (k0_pay3 em wk ba) (hot x2) 0 0)
        -∗ K ⟨Scalar.remsi (BitVec.ofNat 32 (i 0).val) 2#32, k0_pay4, wzrOf r, whOf r, k0_pay7 b, (k0_pay3 em wk ba), k0_pay10 k0_pay4 (wzrOf r) ((firstX x1 (k0_pay3 em wk ba)) 0), k0_pay11 k0_pay4 (wzrOf r) ((firstX x1 (k0_pay3 em wk ba)) 0), k0_pay12 ((firstX x1 (k0_pay3 em wk ba)) 0), k0_pay13 k0_pay4 (whOf r) b⟩))
      ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14) K := by
  rw [k0_part1_eq_skeleton]; unfold k0_part1_skel ins owns
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩, ⟨%f8, %h8, H8⟩, ⟨%f9, %h9, H9⟩, ⟨%d10, %f10, -, H10⟩, ⟨%d11, %f11, -, H11⟩, ⟨%d12, %f12, -, H12⟩, ⟨%d13, %f13, -, H13⟩, ⟨%d14, %f14, -, H14⟩, Hk⟩
  sl_exec (disch := first | sl_exact hc)
  sl_step
  have w2 : arg2.view.readAt (Elt F) (Rect.unit (s := S32x64) ![0, 0] S32x64.size inb_S32x64_S32x64_0_0).toLoadRect f2 = x2 := load_whole h2
  have w5 : arg5.view.readAt (Elt F) (Rect.unit (s := S512x1536) ![0, 0] S512x1024.size inb_S512x1536_S512x1024_0_0).toLoadRect f5 = wzrOf r := load_part h5
  have w5' : arg5.view.readAt (Elt F) (Rect.unit (s := S512x1536) ![0, 1024] S512x512.size inb_S512x1536_S512x512_0_1024).toLoadRect f5 = whOf r := load_part h5
  have w7 : arg7.view.readAt (Elt F) (Rect.unit (s := S1x512) ![0, 0] S1x512.size inb_S1x512_S1x512_0_0).toLoadRect f7 = b := load_whole h7
  have w1 : arg1.view.readAt (Elt F) (Rect.unit (s := S32x64) ![0, 0] S32x64.size inb_S32x64_S32x64_0_0).toLoadRect f1 = x1 := load_whole h1
  have w3 : arg3.view.readAt (Elt F) (Rect.unit (s := S128x256) ![0, 0] S128x256.size inb_S128x256_S128x256_0_0).toLoadRect f3 = em := load_whole h3
  have w4 : arg4.view.readAt (Elt F) (Rect.unit (s := S256x1536) ![0, 0] S256x1536.size inb_S256x1536_S256x1536_0_0).toLoadRect f4 = wk := load_whole h4
  have w6 : arg6.view.readAt (Elt F) (Rect.unit (s := S1x1536) ![0, 0] S1x1536.size inb_S1x1536_S1x1536_0_0).toLoadRect f6 = ba := load_whole h6
  have w14 : part1_first.sl.v16 (F := F) c arg14 = k0_pay4 := View.readCov_full arg14.view _ _ _ _
  have t11 : arg11.view.read (Elt F) (arg11.view.writes (Elt F) f11 (part1_first.sl.H11_1 c arg3 arg4 arg6 f3 f4 f6)) = k0_pay3 em wk ba := by
    unfold part1_first.sl.H11_1; rw [View.read_writes_full, w3, w4, w6]
  have w11 : part1_first.sl.v984 c arg3 arg4 arg6 arg11 f3 f4 f6 = k0_pay3 em wk ba := by
    unfold part1_first.sl.v984 part1_first.sl.H11_1; rw [View.readCov_full, w3, w4, w6]
  have t14 : arg14.view.read (Elt F) (arg14.view.writes (Elt F) f14 part1_first.sl.H14_1) = k0_pay4 := View.read_writes_full arg14.view f14 _ _ _
  have t12 : Rows (arg12.view.read (Elt F) (arg12.view.writes (Elt F) f12 (part1_first.sl.H12_1 c arg1 arg3 arg4 arg6 arg11 f1 f3 f4 f6))) (pin i) 32
      (firstX x1 (k0_pay3 em wk ba)) := by
    rw [pin_first i hc]
    exact Rows.of_store (by rw [w1, w11])
  have w12 : arg12.view.readAt (Elt F) (Rect.unit (s := S2x2048x1536) (k0_off1 i) S1x64x1536.size (k0_off1_inb i)).toLoadRect
      (arg12.view.writes (Elt F) f12 (part1_first.sl.H12_1 c arg1 arg3 arg4 arg6 arg11 f1 f3 f4 f6)) = firstX x1 (k0_pay3 em wk ba) 0 :=
    MX.load (MX.start (q := pout i) (Y := firstX x1 (k0_pay3 em wk ba)) t12) 0 (by decide) rfl
  ihave Hk' := any_value $$ Hk
  iapply Hk'
  isplitr
  · ipureintro; rw [w5, w5', w7, w14, w11, w12]; rfl
  isplitl [H1 H2 H3 H4 H5 H6 H7]
  · isplitl [H1]; · iexists f1; isplitr; · ipureintro; exact h1
                    iexact H1
    isplitl [H2]; · iexists f2; isplitr; · ipureintro; exact h2
                    iexact H2
    isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H6]; · iexists f6; isplitr; · ipureintro; exact h6
                    iexact H6
    iexists f7; isplitr; · ipureintro; exact h7
    iexact H7
  isplitl [H11]; · iexists _; isplitr; · ipureintro; exact t11
                   iexact H11
  isplitl [H14]; · iexists _; isplitr; · ipureintro; exact t14
                   iexact H14
  iapply st_close h8 h9 (Hot.of_store (congrArg k0_pay6 w2)) Out.start (MX.start t12)
  isplitl [H8]; · iexact H8
  isplitl [H9]; · iexact H9
  isplitl [H10]; · iexact H10
  isplitl [H12]; · iexact H12
  iexact H13

variable {wzr : Vec F S512x1024 .f32} {wh : Vec F S512x512 .f32} {R : ℕ → Vec F S64x128 .f32}

/-- A run that begins with a piece is that piece, then the rest. -/
theorem piece {α β : Type} {E : Set ℕ} {p : Prog (TpuEff nD τ sig (Elt F) Λ₀ .tc) α} {k : α → Prog (TpuEff nD τ sig (Elt F) Λ₀ .tc) β} {K : β → sProp 𝕄} :
    wp frame (wpE (defs₀ (F := F)) Variants.none c none) E p (fun a => wp frame (wpE (defs₀ (F := F)) Variants.none c none) E (k a) K)
      ⊢ wp frame (wpE (defs₀ (F := F)) Variants.none c none) E (p >>= k) K :=
  Entails.of_eq (wp_bind _ _ _ p k K).symm

set_option maxHeartbeats 800000 in
/-- All the pieces of the body in order, and the last group of the output: from a first piece that leaves the step loop's
    start, to 31 blocks of the next chunk and all four groups stored, the last state in hand. -/
theorem part23 {P Q : sProp 𝕄} (hH : H = hseq wzr wh b X h0) (h1 : ∀ (E : Set ℕ) (K : _ → sProp 𝕄),
      iprop(P ∗ ((Q ∗ st c i arg8 arg9 arg10 arg12 arg13 wd bd H X T R 0 0) -∗ K ⟨Scalar.remsi (BitVec.ofNat 32 (i 0).val) 2#32, (H 0), wzr, wh, k0_pay7 b, T, k0_pay10 (H 0) wzr (X 0), k0_pay11 (H 0) wzr (X 0), k0_pay12 (X 0), k0_pay13 (H 0) wh b⟩))
        ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14) K) (E : Set ℕ) (K : _ → sProp 𝕄) :
    iprop(P ∗ ((Q ∗ st c i arg8 arg9 arg10 arg12 arg13 wd bd H X T R 31 4) -∗ K ⟨Scalar.remsi (BitVec.ofNat 32 (i 0).val) 2#32, H 32, k0_pay121 T (R 31), 1#32⟩))
      ⊢ wp frame (wpE (defs₀ (F := F)) Variants.none c none) E (k0_part23 i arg1 harg1 arg2 harg2 arg3 harg3 arg4 harg4 arg5 harg5 arg6 harg6 arg7 harg7 arg8 harg8 arg9 harg9 arg10 harg10 arg11 harg11 arg12 harg12 arg13 harg13 arg14 harg14) K := by
  rw [k0_part23_eq_skeleton]; unfold k0_part23_skel
  iintro ⟨HP, Hk⟩
  iapply piece c
  iapply h1
  isplitl [HP]; · iexact HP
  iintro ⟨HQ, Hst⟩
  iapply piece c
  iapply part2 hH
  isplitl [Hst]; · iexact Hst
  iintro Hst
  iapply piece c
  iapply part3 hH
  isplitl [Hst]; · iexact Hst
  iintro Hst
  iapply piece c
  iapply part4 hH
  isplitl [Hst]; · iexact Hst
  iintro Hst
  iapply piece c
  iapply part5 hH
  isplitl [Hst]; · iexact Hst
  iintro Hst
  iapply piece c
  iapply part6 hH
  isplitl [Hst]; · iexact Hst
  iintro Hst
  iapply piece c
  iapply part7 hH
  isplitl [Hst]; · iexact Hst
  iintro Hst
  iapply piece c
  iapply part8 hH
  isplitl [Hst]; · iexact Hst
  iintro Hst
  iapply piece c
  iapply part9 hH
  isplitl [Hst]; · iexact Hst
  iintro Hst
  iapply piece c
  iapply part10 hH
  isplitl [Hst]; · iexact Hst
  iintro Hst
  iapply piece c
  iapply part11 hH
  isplitl [Hst]; · iexact Hst
  iintro Hst
  iapply piece c
  iapply part12 hH
  isplitl [Hst]; · iexact Hst
  iintro Hst
  iapply piece c
  iapply part13 hH
  isplitl [Hst]; · iexact Hst
  iintro Hst
  iapply piece c
  iapply part14 hH
  isplitl [Hst]; · iexact Hst
  iintro Hst
  iapply piece c
  iapply part15 hH
  isplitl [Hst]; · iexact Hst
  iintro Hst
  iapply piece c
  iapply part16 hH
  isplitl [Hst]; · iexact Hst
  iintro Hst
  iapply piece c
  iapply part17 hH
  isplitl [Hst]; · iexact Hst
  iintro Hst
  iapply piece c
  iapply part18 hH
  isplitl [Hst]; · iexact Hst
  iintro Hst
  iapply piece c
  iapply part19 hH
  isplitl [Hst]; · iexact Hst
  iintro Hst
  iapply piece c
  iapply part20 hH
  isplitl [Hst]; · iexact Hst
  iintro Hst
  iapply piece c
  iapply part21 hH
  isplitl [Hst]; · iexact Hst
  iintro Hst
  iapply piece c
  iapply part22 hH
  isplitl [Hst]; · iexact Hst
  iintro Hst
  ihave Ho := st_open $$ Hst
  icases Ho with ⟨%f8, %f9, %f10, %f12, %f13, %hst, H8, H9, H10, H12, H13⟩
  obtain ⟨h8, h9, h10, h12, hO⟩ := hst
  subst hH
  sl_exec
  sl_step
  have w8 : arg8.view.readAt (Elt F) (Rect.unit (s := S512x128) ![0, 0] S512x128.size inb_S512x128_S512x128_0_0).toLoadRect f8 = wd := load_whole h8
  have w9 : arg9.view.readAt (Elt F) (Rect.unit (s := S1x128) ![0, 0] S1x128.size inb_S1x128_S1x128_0_0).toLoadRect f9 = bd := load_whole h9
  have r31 : arg13.view.readAt (Elt F) (Rect.unit (s := S2048x128) ![1984, 0] S64x128.size inb_S2048x128_S64x128_1984_0).toLoadRect f13 = R 31 := Hot.load hO 31 rfl
  rw [w8, w9, r31]
  ihave Hk' := any_value $$ Hk
  iapply Hk'
  isplitr
  · ipureintro; rfl
  isplitl [HQ]; · iexact HQ
  iapply st_close h8 h9 hO (Out.store₀ rfl rfl h10) h12
  isplitl [H8]; · iexact H8
  isplitl [H9]; · iexact H9
  isplitl [H10]; · iexact H10
  isplitl [H12]; · iexact H12
  iexact H13

/-- The whole body, from a first piece that leaves the step loop's start beside the state's buffer: the next chunk's 32 blocks
    and all four groups of the output are stored, and the state's buffer holds the chunk's last state. -/
theorem whole {P Q : sProp 𝕄} (hH : H = hseq wzr wh b X h0) (h1 : ∀ (E : Set ℕ) (K : _ → sProp 𝕄),
      iprop(P ∗ (((Q ∗ owns (c : Thread nD τ) arg14 fullShare h0) ∗ st c i arg8 arg9 arg10 arg12 arg13 wd bd H X T R 0 0) -∗ K ⟨Scalar.remsi (BitVec.ofNat 32 (i 0).val) 2#32, (H 0), wzr, wh, k0_pay7 b, T, k0_pay10 (H 0) wzr (X 0), k0_pay11 (H 0) wzr (X 0), k0_pay12 (X 0), k0_pay13 (H 0) wh b⟩))
        ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14) K) (E : Set ℕ) (K : _ → sProp 𝕄) :
    iprop(P ∗ ((Q ∗ owns (c : Thread nD τ) arg14 fullShare (H 32) ∗ st c i arg8 arg9 arg10 arg12 arg13 wd bd H X T R 32 4) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12 arg13 harg13 arg14 harg14) K := by
  rw [cc0__gru_kernel_eq_skeleton]; unfold cc0__gru_kernel_skel
  iintro ⟨HP, Hk⟩
  iapply piece c
  iapply part23 (hH := hH) (h1 := h1)
  isplitl [HP]; · iexact HP
  iintro ⟨⟨HQ, H14⟩, Hst⟩
  ihave Ho := st_open $$ Hst
  icases Ho with ⟨%f8, %f9, %f10, %f12, %f13, %hst, H8, H9, H10, H12, H13⟩
  obtain ⟨h8, h9, h10, h12, hO⟩ := hst
  unfold owns
  icases H14 with ⟨%f14, %h14, H14⟩
  sl_exec
  sl_step
  iapply Hk
  isplitl [HQ]; · iexact HQ
  isplitl [H14]; · iexists arg14.view.writes (Elt F) f14 [⟨Rect.unit (s := S64x512) ![0, 0] S64x512.size inb_S64x512_S64x512_0_0, k0_pay2 (H 32)⟩]
                   isplitr; · ipureintro; exact (View.read_writes_full arg14.view f14 _ _ _).trans (shapeCast_self _ _)
                   iexact H14
  iapply st_close h8 h9 hO h10 (MX.store₀ (pin_ne_pout i) rfl rfl h12)
  isplitl [H8]; · iexact H8
  isplitl [H9]; · iexact H9
  isplitl [H10]; · iexact H10
  isplitl [H12]; · iexact H12
  iexact H13

end Cert.KernelIdeal.Gru
end
-- ==== Proof.Gru.Run.lean ====
module

public import proofs.«01_k».proof.Proof.Gru.Body
public import Idealize.ShloMosaic.Lib.Claim

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output block -/

/-- The output block with groups `Z 0, …, Z 3` of eight time steps. -/
def outBlock (Z : ℕ → Vec F S64x8x128 .f32) : Vec F S64x32x128 .f32 := fun y =>
  Z ((y 1).val / 8) (Fin.cons (y 0) (Fin.cons ⟨(y 1).val % 8, Nat.mod_lt _ (by decide)⟩ (Fin.cons (y 2) (fun a => a.elim0))))

/-- An output block with all four groups stored is `outBlock`. -/
theorem Out.eq_outBlock {M : Vec F S64x32x128 .f32} {Z : ℕ → Vec F S64x8x128 .f32} (h : Out M 4 Z) : M = outBlock Z := by
  funext y
  have hy : (y 1).val < 32 := (y 1).isLt
  have inb : ∀ a, (![0, 8 * ((y 1).val / 8), 0] : Fin 3 → ℕ) a + S64x8x128.size a ≤ S64x32x128.size a := by
    intro a; fin_cases a
    · show 0 + 64 ≤ 64; omega
    · show 8 * ((y 1).val / 8) + 8 ≤ 32; omega
    · show 0 + 128 ≤ 128; omega
  unfold outBlock
  rw [← h ((y 1).val / 8) (by omega) inb]
  unfold VecWindow.window
  refine congrArg M (funext fun a => Fin.ext ?_)
  fin_cases a
  · show (y 0).val = 0 + 1 * (y 0).val; omega
  · show (y 1).val = 8 * ((y 1).val / 8) + 1 * ((y 1).val % 8); omega
  · show (y 2).val = 0 + 1 * (y 2).val; omega

/-! ## The point's number, and the branches it decides -/

theorem first_iff : ∀ i : grid0.Coords, first i ↔ (i 0).val = 0 := by unfold first; decide +kernel
theorem pin_eq : ∀ i : grid0.Coords, pin i = (i 0).val % 2 := by decide +kernel
theorem pout_eq : ∀ i : grid0.Coords, pout i = ((i 0).val + 1) % 2 := by decide +kernel

/-- The only coordinate of point `t` is `t`. -/
theorem coord_eq (t : Fin cfg0.N) : (grid0.coords t 0).val = t.val := by
  have hN : t.val < 8 := lt_of_lt_of_eq t.isLt (show cfg0.N = 8 from N_0)
  have e : (grid0.coords t 0).val = t.val / 1 % 8 := Pipeline.Grid.coords_val t 0 (by decide) rfl
  omega

/-- The point number `n` (counted round past the last). -/
def pt (n : ℕ) : Fin cfg0.N := ⟨n % 8, lt_of_lt_of_eq (Nat.mod_lt _ (by decide)) (show 8 = cfg0.N from N_0.symm)⟩

/-- A grid point is the point of its own number. -/
theorem pt_val (t : Fin cfg0.N) : pt t.val = t :=
  Fin.ext (Nat.mod_eq_of_lt (lt_of_lt_of_eq t.isLt (show cfg0.N = 8 from N_0)))

/-! ## What the points compute -/

/-- The table of input projections of every token, as the first point builds it. -/
def table (c : Dev nD) : Vec F S128x1536 .f32 := k0_pay3 (iblk m c 2 (pt 0)) (iblk m c 3 (pt 0)) (iblk m c 5 (pt 0))

/-- The input projections of chunk `n`: the first chunk's computed by the first point, every other one's by the point before. -/
def projs (c : Dev nD) : ℕ → ℕ → Vec F S1x64x1536 .bf16
  | 0 => firstX (iblk m c 0 (pt 0)) (table m c)
  | n + 1 => fun s => proj (table m c) (hot (iblk m c 1 (pt n)) s)

/-- The states along chunk `n`, from state `h`. -/
def along (c : Dev nD) (n : ℕ) (h : Vec F S64x512 .f32) : ℕ → Vec F S64x512 .f32 :=
  hseq (wzrOf (iblk m c 4 (pt n))) (whOf (iblk m c 4 (pt n))) (iblk m c 6 (pt n)) (projs m c n) h

/-- The state at the start of chunk `n`. -/
def start (c : Dev nD) : ℕ → Vec F S64x512 .f32
  | 0 => k0_pay4
  | n + 1 => along m c n (start c n) 32

/-- The output block of chunk `n`. -/
def block (c : Dev nD) (n : ℕ) : Vec F S64x32x128 .f32 :=
  outBlock (group (iblk m c 7 (pt n)) (iblk m c 8 (pt n)) (along m c n (start m c n)))

/-! ## The staging and scratch buffers -/

abbrev sc0 : Memref sig .tc .vmem S128x1536 .f32 := Memref.whole cc0_scratch0
abbrev sc1 : Memref sig .tc .vmem S2x2048x1536 .bf16 := Memref.whole cc0_scratch1
abbrev sc2 : Memref sig .tc .vmem S2048x128 .f32 := Memref.whole cc0_scratch2
abbrev sc3 : Memref sig .tc .vmem S64x512 .f32 := Memref.whole cc0_scratch3

/-- What the launch hands the body: the four scratch buffers at anything and the generator's register. -/
theorem handed_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- Between points: before the first, what the launch hands over; before point `n` past it, the table, the projections of
    chunk `n` in the half that point reads, and the state at the chunk's start. -/
def kept (c : Dev nD) : ℕ → sProp 𝕄
  | 0 => Pipeline.ΦA spec0 c
  | n + 1 => iprop(iprop(owns (c : Thread nD τ) sc0 fullShare (table m c)
      ∗ (∃ M, ⌜Rows M ((n + 1) % 2) 32 (projs m c (n + 1))⌝ ∗ owns (c : Thread nD τ) sc1 fullShare M)
      ∗ (∃ d, owns (c : Thread nD τ) sc2 fullShare d) ∗ owns (c : Thread nD τ) sc3 fullShare (start m c (n + 1))) ∗ (∃ r, prngReg c r))

/-- The pipeline's proof data: inputs keep their blocks, the output's block at point `t` is `block`, and `kept` holds
    between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => block m c t.val
  Φ t := kept m c t.val
  q w := Pipeline.shareOf spec0 w
  owed _ := 0

/-- A window's array starts with what the region's entry gives it. -/
theorem A_eq (c : Dev nD) (w : Fin cfg0.W) : (dats m 0 c).A w = V m c (Pipeline.arrRef spec0 w) := by
  dsimp only [dats]

/-- The result window's block after point `t`. -/
theorem after_9 (c : Dev nD) (t : Fin cfg0.N) : (dats m 0 c).after 9 t = block m c t.val := by dsimp only [dats]

/-! ## One point of the pipeline -/

/-- The seven inputs' buffers at point `t`. -/
abbrev insAt (c : Dev nD) (t : Fin cfg0.N) : sProp 𝕄 :=
  ins c (win0_0.stage (cfg0.slots t 0)) (win0_1.stage (cfg0.slots t 1)) (win0_2.stage (cfg0.slots t 2)) (win0_3.stage (cfg0.slots t 3))
    (win0_4.stage (cfg0.slots t 4)) (win0_5.stage (cfg0.slots t 5)) (win0_6.stage (cfg0.slots t 6))
    (iblk m c 0 t) (iblk m c 1 t) (iblk m c 2 t) (iblk m c 3 t) (iblk m c 4 t) (iblk m c 5 t) (iblk m c 6 t)

/-- The output layer's weights and bias, and the output's buffer at anything. -/
abbrev outsAt (c : Dev nD) (t : Fin cfg0.N) : sProp 𝕄 :=
  iprop(owns (c : Thread nD τ) (win0_7.stage (cfg0.slots t 7)) fullShare (iblk m c 7 t)
    ∗ owns (c : Thread nD τ) (win0_8.stage (cfg0.slots t 8)) fullShare (iblk m c 8 t)
    ∗ (∃ d, owns (c : Thread nD τ) (win0_9.stage (cfg0.slots t 9)) fullShare d))

/-- What a point leaves: the inputs, the output block, and what is kept for the next point. -/
abbrev leaves (c : Dev nD) (t : Fin cfg0.N) : sProp 𝕄 :=
  iprop(insAt m c t ∗ owns (c : Thread nD τ) (win0_7.stage (cfg0.slots t 7)) fullShare (iblk m c 7 t)
    ∗ owns (c : Thread nD τ) (win0_8.stage (cfg0.slots t 8)) fullShare (iblk m c 8 t)
    ∗ owns (c : Thread nD τ) (win0_9.stage (cfg0.slots t 9)) fullShare (block m c t.val)
    ∗ owns (c : Thread nD τ) sc0 fullShare (table m c)
    ∗ (∃ M, ⌜Rows M ((t.val + 1) % 2) 32 (projs m c (t.val + 1))⌝ ∗ owns (c : Thread nD τ) sc1 fullShare M)
    ∗ (∃ d, owns (c : Thread nD τ) sc2 fullShare d) ∗ owns (c : Thread nD τ) sc3 fullShare (start m c (t.val + 1)))

/-- The body's own account of what it leaves, read as `leaves`. -/
theorem leaves_of (c : Dev nD) (t : Fin cfg0.N) :
    iprop((insAt m c t ∗ owns (c : Thread nD τ) sc0 fullShare (table m c)) ∗ owns (c : Thread nD τ) sc3 fullShare (along m c t.val (start m c t.val) 32)
      ∗ st c (grid0.coords t) (win0_7.stage (cfg0.slots t 7)) (win0_8.stage (cfg0.slots t 8)) (win0_9.stage (cfg0.slots t 9)) sc1 sc2
          (iblk m c 7 t) (iblk m c 8 t) (along m c t.val (start m c t.val)) (projs m c t.val) (table m c) (hot (iblk m c 1 t)) 32 4)
      ⊢ leaves m c t := by
  unfold st
  iintro ⟨⟨Hi, H0⟩, H3, H7, H8, ⟨%M9, %h9, H9⟩, ⟨%M1, %h1, H1⟩, ⟨%O, -, H2⟩⟩
  have e9 : M9 = block m c t.val := by
    rw [h9.eq_outBlock]; unfold block; rw [pt_val]
  have e1 : Rows M1 ((t.val + 1) % 2) 32 (projs m c (t.val + 1)) := by
    have := h1.2
    rw [pout_eq, coord_eq] at this
    show Rows M1 ((t.val + 1) % 2) 32 (fun s => proj (table m c) (hot (iblk m c 1 (pt t.val)) s))
    rw [pt_val]
    exact this
  subst e9
  isplitl [Hi]; · iexact Hi
  isplitl [H7]; · iexact H7
  isplitl [H8]; · iexact H8
  isplitl [H9]; · iexact H9
  isplitl [H0]; · iexact H0
  isplitl [H1]
  · iexists M1; isplitr; · ipureintro; exact e1
    iexact H1
  isplitl [H2]; · iexists O; iexact H2
  iexact H3

/-- A point past the first. -/
theorem later (c : Dev nD) (t : Fin cfg0.N) (ht : t.val ≠ 0) (K : PUnit → sProp 𝕄) :
    iprop((insAt m c t ∗ outsAt m c t ∗ owns (c : Thread nD τ) sc0 fullShare (table m c)
        ∗ (∃ M, ⌜Rows M (t.val % 2) 32 (projs m c t.val)⌝ ∗ owns (c : Thread nD τ) sc1 fullShare M)
        ∗ (∃ d, owns (c : Thread nD τ) sc2 fullShare d) ∗ owns (c : Thread nD τ) sc3 fullShare (start m c t.val))
      ∗ (leaves m c t -∗ K ⟨⟩))
      ⊢ wp frame (wpE (defs₀ (F := F)) Variants.none c none) Set.univ (bodyAt0 t) K := by
  have hc : ¬ first (grid0.coords t) := by rw [first_iff, coord_eq]; exact ht
  have hp : pin (grid0.coords t) = t.val % 2 := by rw [pin_eq, coord_eq]
  have hH : along m c t.val (start m c t.val) = hseq (wzrOf (iblk m c 4 t)) (whOf (iblk m c 4 t)) (iblk m c 6 t) (projs m c t.val) (start m c t.val) := by
    unfold along; rw [pt_val]
  have h0 : along m c t.val (start m c t.val) 0 = start m c t.val := rfl
  unfold bodyAt0
  iintro ⟨HP, Hk⟩
  iapply (whole c (grid0.coords t) _ _ _ _ _ _ _ _ _ _ _ _ _ _ _ _ _ _ _ _ sc0 _ sc1 _ sc2 _ sc3 _ (iblk m c 6 t) (iblk m c 7 t) (iblk m c 8 t)
    (table m c) (projs m c t.val) (start m c t.val) (along m c t.val (start m c t.val))
    (P := iprop(insAt m c t ∗ outsAt m c t ∗ owns (c : Thread nD τ) sc0 fullShare (table m c)
        ∗ (∃ M, ⌜Rows M (t.val % 2) 32 (projs m c t.val)⌝ ∗ owns (c : Thread nD τ) sc1 fullShare M)
        ∗ (∃ d, owns (c : Thread nD τ) sc2 fullShare d) ∗ owns (c : Thread nD τ) sc3 fullShare (start m c t.val)))
    (Q := iprop(insAt m c t ∗ owns (c : Thread nD τ) sc0 fullShare (table m c))) (R := hot (iblk m c 1 t)) hH (fun E K => by
      rw [h0]
      iintro ⟨⟨Hi, ⟨H7, H8, H9⟩, H0, H1, H2, H3⟩, Hk⟩
      iapply (part1_later c (grid0.coords t) _ _ _ _ _ _ _ _ _ _ _ _ _ _ _ _ _ _ _ _ sc0 _ sc1 _ sc2 _ sc3 _ (iblk m c 0 t) (iblk m c 1 t) (iblk m c 2 t)
        (iblk m c 3 t) (iblk m c 4 t) (iblk m c 5 t) (iblk m c 6 t) (iblk m c 7 t) (iblk m c 8 t)
        (table m c) (projs m c t.val) (start m c t.val) (along m c t.val (start m c t.val)) hc E K)
      rw [hp]
      isplitl [Hi]; · iexact Hi
      isplitl [H7]; · iexact H7
      isplitl [H8]; · iexact H8
      isplitl [H9]; · iexact H9
      isplitl [H0]; · iexact H0
      isplitl [H1]; · iexact H1
      isplitl [H2]; · iexact H2
      isplitl [H3]; · iexact H3
      iintro ⟨Hi, H0, H3, Hst⟩
      iapply Hk
      isplitl [Hi H0 H3]
      · isplitl [Hi H0]
        · isplitl [Hi]; · iexact Hi
          iexact H0
        iexact H3
      iexact Hst) Set.univ K)
  isplitl [HP]; · iexact HP
  iintro H
  iapply Hk
  iapply (leaves_of m c t)
  iexact H

/-- The first point. -/
theorem atFirst (c : Dev nD) (t : Fin cfg0.N) (ht : t.val = 0) (K : PUnit → sProp 𝕄) :
    iprop((insAt m c t ∗ outsAt m c t ∗ (∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d))
      ∗ (leaves m c t -∗ K ⟨⟩))
      ⊢ wp frame (wpE (defs₀ (F := F)) Variants.none c none) Set.univ (bodyAt0 t) K := by
  have hc : first (grid0.coords t) := by rw [first_iff, coord_eq]; exact ht
  have ept : pt 0 = t := by rw [← ht, pt_val]
  have hT : k0_pay3 (iblk m c 2 t) (iblk m c 3 t) (iblk m c 5 t) = table m c := by unfold table; rw [ept]
  have hX : firstX (iblk m c 0 t) (table m c) = projs m c t.val := by rw [ht]; unfold projs; rw [ept]
  have hs : (k0_pay4 : Vec F S64x512 .f32) = start m c t.val := by rw [ht]; rfl
  have hH : along m c t.val (start m c t.val) = hseq (wzrOf (iblk m c 4 t)) (whOf (iblk m c 4 t)) (iblk m c 6 t) (projs m c t.val) (start m c t.val) := by
    unfold along; rw [pt_val]
  have h0 : along m c t.val (start m c t.val) 0 = start m c t.val := rfl
  unfold bodyAt0
  iintro ⟨HP, Hk⟩
  iapply (whole c (grid0.coords t) _ _ _ _ _ _ _ _ _ _ _ _ _ _ _ _ _ _ _ _ sc0 _ sc1 _ sc2 _ sc3 _ (iblk m c 6 t) (iblk m c 7 t) (iblk m c 8 t)
    (table m c) (projs m c t.val) (start m c t.val) (along m c t.val (start m c t.val))
    (P := iprop(insAt m c t ∗ outsAt m c t ∗ (∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)))
    (Q := iprop(insAt m c t ∗ owns (c : Thread nD τ) sc0 fullShare (table m c))) (R := hot (iblk m c 1 t)) hH (fun E K => by
      have hp := part1_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
        sc0 (Memref.isWhole_whole _) sc1 (Memref.isWhole_whole _) sc2 (Memref.isWhole_whole _) sc3 (Memref.isWhole_whole _)
        (iblk m c 0 t) (iblk m c 1 t) (iblk m c 2 t) (iblk m c 3 t) (iblk m c 4 t) (iblk m c 5 t) (iblk m c 6 t) (iblk m c 7 t) (iblk m c 8 t)
        (along m c t.val (start m c t.val)) hc E K
      rw [hT, hX, hs] at hp
      rw [h0]
      iintro ⟨⟨Hi, ⟨H7, H8, H9⟩, H0, H1, H2, H3⟩, Hk⟩
      iapply hp
      isplitl [Hi]; · iexact Hi
      isplitl [H7]; · iexact H7
      isplitl [H8]; · iexact H8
      isplitl [H9]; · iexact H9
      isplitl [H0]; · iexact H0
      isplitl [H1]; · iexact H1
      isplitl [H2]; · iexact H2
      isplitl [H3]; · iexact H3
      iintro ⟨Hi, H0, H3, Hst⟩
      iapply Hk
      isplitl [Hi H0 H3]
      · isplitl [Hi H0]
        · isplitl [Hi]; · iexact Hi
          iexact H0
        iexact H3
      iexact Hst) Set.univ K)
  isplitl [HP]; · iexact HP
  iintro H
  iapply Hk
  iapply (leaves_of m c t)
  iexact H

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

/-- What `leaves` and the generator's register amount to is what is kept for the next point and every window's buffer. -/
theorem post_of (c : Dev nD) (t : Fin cfg0.N) :
    iprop((leaves m c t ∗ (∃ r, prngReg c r)) ∗ (dats m 0 c).owesAt () t.castSucc) ⊢ bodyPost m c t := by
  unfold bodyPost
  rw [show (dats m 0 c).owesAt () t.succ = (dats m 0 c).owesAt () t.castSucc from rfl,
    show (dats m 0 c).Φ t.succ = kept m c (t.val + 1) from rfl, after_9]
  unfold leaves insAt ins kept
  iintro ⟨⟨⟨⟨I0, I1, I2, I3, I4, I5, I6⟩, I7, I8, I9, H0, H1, H2, H3⟩, Hg⟩, Ho⟩
  isplitl [H0 H1 H2 H3 Hg]
  · isplitl [H0 H1 H2 H3]
    · isplitl [H0]; · iexact H0
      isplitl [H1]; · iexact H1
      isplitl [H2]; · iexact H2
      iexact H3
    iexact Hg
  isplitl [Ho]; · iexact Ho
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  iexact I9

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  simp only [before0_0_of m (dats m 0 c) (A_eq m c 0) (fun _ => by dsimp only [dats]), before0_1_of m (dats m 0 c) (A_eq m c 1) (fun _ => by dsimp only [dats]), before0_2_of m (dats m 0 c) (A_eq m c 2) (fun _ => by dsimp only [dats]), before0_3_of m (dats m 0 c) (A_eq m c 3) (fun _ => by dsimp only [dats]), before0_4_of m (dats m 0 c) (A_eq m c 4) (fun _ => by dsimp only [dats]), before0_5_of m (dats m 0 c) (A_eq m c 5) (fun _ => by dsimp only [dats]), before0_6_of m (dats m 0 c) (A_eq m c 6) (fun _ => by dsimp only [dats]), before0_7_of m (dats m 0 c) (A_eq m c 7) (fun _ => by dsimp only [dats]), before0_8_of m (dats m 0 c) (A_eq m c 8) (fun _ => by dsimp only [dats])]
  rw [show (dats m 0 c).Φ t.castSucc = kept m c t.val from rfl]
  by_cases hz : t.val = 0
  · rw [show kept m c t.val = Pipeline.ΦA spec0 c by rw [hz]; rfl, handed_eq]
    iintro ⟨⟨⟨H0, H1, H2, H3⟩, Hg⟩, Ho, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩⟩
    iapply (atFirst m c t hz)
    isplitl [H0 H1 H2 H3 I0 I1 I2 I3 I4 I5 I6 I7 I8 I9]
    · isplitl [I0 I1 I2 I3 I4 I5 I6]
      · unfold insAt ins
        isplitl [I0]; · iexact I0
        isplitl [I1]; · iexact I1
        isplitl [I2]; · iexact I2
        isplitl [I3]; · iexact I3
        isplitl [I4]; · iexact I4
        isplitl [I5]; · iexact I5
        iexact I6
      isplitl [I7 I8 I9]
      · isplitl [I7]; · iexact I7
        isplitl [I8]; · iexact I8
        iexists _; iexact I9
      isplitl [H0]; · iexact H0
      isplitl [H1]; · iexact H1
      isplitl [H2]; · iexact H2
      iexact H3
    iintro HL
    iapply (post_of m c t)
    isplitl [HL Hg]
    · isplitl [HL]; · iexact HL
      iexact Hg
    iexact Ho
  · obtain ⟨n, hn⟩ := Nat.exists_eq_succ_of_ne_zero hz
    rw [show kept m c t.val = iprop(iprop(owns (c : Thread nD τ) sc0 fullShare (table m c)
      ∗ (∃ M, ⌜Rows M (t.val % 2) 32 (projs m c t.val)⌝ ∗ owns (c : Thread nD τ) sc1 fullShare M)
      ∗ (∃ d, owns (c : Thread nD τ) sc2 fullShare d) ∗ owns (c : Thread nD τ) sc3 fullShare (start m c t.val)) ∗ (∃ r, prngReg c r)) by rw [hn]; rfl]
    iintro ⟨⟨⟨H0, H1, H2, H3⟩, Hg⟩, Ho, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩⟩
    iapply (later m c t hz)
    isplitl [H0 H1 H2 H3 I0 I1 I2 I3 I4 I5 I6 I7 I8 I9]
    · isplitl [I0 I1 I2 I3 I4 I5 I6]
      · unfold insAt ins
        isplitl [I0]; · iexact I0
        isplitl [I1]; · iexact I1
        isplitl [I2]; · iexact I2
        isplitl [I3]; · iexact I3
        isplitl [I4]; · iexact I4
        isplitl [I5]; · iexact I5
        iexact I6
      isplitl [I7 I8 I9]
      · isplitl [I7]; · iexact I7
        isplitl [I8]; · iexact I8
        iexists _; iexact I9
      isplitl [H0]; · iexact H0
      isplitl [H1]; · iexact H1
      isplitl [H2]; · iexact H2
      iexact H3
    iintro HL
    iapply (post_of m c t)
    isplitl [HL Hg]
    · isplitl [HL]; · iexact HL
      iexact Hg
    iexact Ho

/-! ## The launch -/

theorem defs₀_row (t : Fin cfg0.N) :
    defs₀ (F := F) .tc cfg0.body (cfg0.bodyArgs t (cfg0.slots t)) = bodyAt0 t := by
  unfold defs₀; rw [Defs.onTc_tc]

/-- The body meets its obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch as the region finds it satisfies the invariant before the first point. -/
theorem hin (c : Dev nD) : Pipeline.ΦA spec0 c ⊢ (dats m 0 c).Φ 0 := by
  rw [show (dats m 0 c).Φ 0 = Pipeline.ΦA spec0 c from rfl]

/-- The invariant after the last point gives the scratch back. -/
theorem hout (c : Dev nD) : (dats m 0 c).Φ (Fin.last cfg0.N) ⊢ Pipeline.ΦA spec0 c := by
  rw [show (dats m 0 c).Φ (Fin.last cfg0.N) = kept m c cfg0.N from rfl, show cfg0.N = 7 + 1 from N_0, handed_eq]
  unfold kept
  iintro ⟨⟨H0, ⟨%M, -, H1⟩, H2, H3⟩, Hg⟩
  isplitl [H0 H1 H2 H3]
  · isplitl [H0]; · iexists _; iexact H0
    isplitl [H1]; · iexists M; iexact H1
    isplitl [H2]; · iexact H2
    iexists _; iexact H3
  iexact Hg

set_option backward.isDefEq.respectTransparency.types false in
/-- Every execution of the program ends, with each array of the pipeline at what the proof data says, every other
    unscoped buffer as the pipeline found it, and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The whole program runs, and its arrays end as the region's data say. -/
theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end unchanged and the counters at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.KernelIdeal.Gru

end
-- ==== Proof.Spec.lean ====
module

public import Idealize.ShloMosaic.PureOps.Ideal
public import Idealize.ShloMosaic.PureOps.IdealRules
public import Idealize.ShloMosaic.Lib.Pointwise

@[expose] public section

noncomputable section

namespace Cert.Spec

open Idealize.ShloMosaic

/-! ## The recurrence over the extended reals, one batch row at a time -/

/-- Column `u` of the update gate's third of the 1536 gate columns. -/
abbrev colZ (u : Fin 512) : Fin 1536 := ⟨u.val, by omega⟩
/-- Column `u` of the reset gate's third. -/
abbrev colR (u : Fin 512) : Fin 1536 := ⟨512 + u.val, by omega⟩
/-- Column `u` of the candidate's third. -/
abbrev colH (u : Fin 512) : Fin 1536 := ⟨1024 + u.val, by omega⟩

/-- The input's contribution to gate column `j` for token `v`: its embedding through the input weights, plus the first bias. -/
def inp (E : Fin 128 → Fin 256 → EReal) (K : Fin 256 → Fin 1536 → EReal) (B : Fin 2 → Fin 1536 → EReal) (v : Fin 128) (j : Fin 1536) : EReal :=
  (∑ e : Fin 256, E v e * K e j) + B 0 j

/-- The state's contribution to gate column `j`: the state through the recurrent weights, plus the second bias. -/
def recur (R : Fin 512 → Fin 1536 → EReal) (B : Fin 2 → Fin 1536 → EReal) (h : Fin 512 → EReal) (j : Fin 1536) : EReal :=
  (∑ k : Fin 512, h k * R k j) + B 1 j

/-- The next state: `z * h + (1 - z) * c`, with update gate `z`, reset gate `r` and candidate `c = tanh (x_h + r * m_h)`. -/
def next (R : Fin 512 → Fin 1536 → EReal) (B : Fin 2 → Fin 1536 → EReal) (x : Fin 1536 → EReal) (h : Fin 512 → EReal) (u : Fin 512) : EReal :=
  Ideal.logistic (x (colZ u) + recur R B h (colZ u)) * h u
    + (1 - Ideal.logistic (x (colZ u) + recur R B h (colZ u)))
      * Ideal.tanh (x (colH u) + Ideal.logistic (x (colR u) + recur R B h (colR u)) * recur R B h (colH u))

/-- The state after `t` tokens of a row, from the zero state. -/
def hid (E : Fin 128 → Fin 256 → EReal) (K : Fin 256 → Fin 1536 → EReal) (R : Fin 512 → Fin 1536 → EReal) (B : Fin 2 → Fin 1536 → EReal)
    (tok : ℕ → Fin 128) : ℕ → Fin 512 → EReal
  | 0 => fun _ => 0
  | t + 1 => next R B (inp E K B (tok t)) (hid E K R B tok t)

/-- The output layer at column `v`. -/
def out (D : Fin 512 → Fin 128 → EReal) (d : Fin 128 → EReal) (h : Fin 512 → EReal) (v : Fin 128) : EReal :=
  (∑ u : Fin 512, h u * D u v) + d v

/-! ## The whole result, from the arrays -/

/-- A matrix read by row and column. -/
def mat {n k : ℕ} (X : (⟨2, ![n, k]⟩ : Shape).Idx → EReal) : Fin n → Fin k → EReal := fun a b => X (ix2 a b)

/-- Token `t` of batch row `b`, as a number below 128. -/
def tok (x : (⟨2, ![64, 256]⟩ : Shape).Idx → BitVec 32) (b : Fin 64) (t : ℕ) : Fin 128 :=
  ⟨(x (ix2 b ⟨t % 256, Nat.mod_lt _ (by decide)⟩)).toNat % 128, Nat.mod_lt _ (by decide)⟩

/-- The state of batch row `b` after `t` tokens. -/
def states (x : (⟨2, ![64, 256]⟩ : Shape).Idx → BitVec 32) (E : (⟨2, ![128, 256]⟩ : Shape).Idx → EReal) (K : (⟨2, ![256, 1536]⟩ : Shape).Idx → EReal)
    (R : (⟨2, ![512, 1536]⟩ : Shape).Idx → EReal) (B : (⟨2, ![2, 1536]⟩ : Shape).Idx → EReal) (b : Fin 64) (t : ℕ) : Fin 512 → EReal :=
  hid (mat E) (mat K) (mat R) (mat B) (tok x b) t

/-- The logits: of each batch row and time step, the output layer of the state after that step. -/
def result (x : (⟨2, ![64, 256]⟩ : Shape).Idx → BitVec 32) (E : (⟨2, ![128, 256]⟩ : Shape).Idx → EReal) (K : (⟨2, ![256, 1536]⟩ : Shape).Idx → EReal)
    (R : (⟨2, ![512, 1536]⟩ : Shape).Idx → EReal) (B : (⟨2, ![2, 1536]⟩ : Shape).Idx → EReal) (W : (⟨2, ![512, 128]⟩ : Shape).Idx → EReal)
    (d : (⟨1, ![128]⟩ : Shape).Idx → EReal) : (⟨3, ![64, 256, 128]⟩ : Shape).Idx → EReal :=
  fun i => out (mat W) (fun v => d (ix1 v)) (states x E K R B (i 0) ((i 1).val + 1)) (i 2)

/-! ## Every state is finite -/

/-- The logistic function takes real values only, at the infinities too. -/
theorem logistic_real (x : EReal) : ∃ r : ℝ, Ideal.logistic x = (r : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- So does the hyperbolic tangent. -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- Over reals, moving the candidate towards the old state by the gate is the gate's mixture of the two. -/
theorem mix {z h c : EReal} (hz : ∃ r : ℝ, z = r) (hh : ∃ r : ℝ, h = r) (hc : ∃ r : ℝ, c = r) :
    c + z * (h - c) = z * h + (1 - z) * c := by
  obtain ⟨z, rfl⟩ := hz; obtain ⟨h, rfl⟩ := hh; obtain ⟨c, rfl⟩ := hc
  rw [← EReal.coe_one]
  simp only [← EReal.coe_sub, ← EReal.coe_mul, ← EReal.coe_add]
  congr 1; ring

/-- A step from a finite state gives a finite state. -/
theorem next_real {R : Fin 512 → Fin 1536 → EReal} {B : Fin 2 → Fin 1536 → EReal} {x : Fin 1536 → EReal} {h : Fin 512 → EReal}
    (hh : ∀ u, ∃ r : ℝ, h u = r) (u : Fin 512) : ∃ r : ℝ, next R B x h u = r := by
  unfold next
  obtain ⟨z, hz⟩ := logistic_real (x (colZ u) + recur R B h (colZ u))
  obtain ⟨c, hc⟩ := tanh_real (x (colH u) + Ideal.logistic (x (colR u) + recur R B h (colR u)) * recur R B h (colH u))
  obtain ⟨k, hk⟩ := hh u
  rw [hz, hc, hk, ← EReal.coe_one]
  simp only [← EReal.coe_sub, ← EReal.coe_mul, ← EReal.coe_add]
  exact ⟨_, rfl⟩

/-- Every state along a row is finite, whatever the weights. -/
theorem hid_real (E : Fin 128 → Fin 256 → EReal) (K : Fin 256 → Fin 1536 → EReal) (R : Fin 512 → Fin 1536 → EReal) (B : Fin 2 → Fin 1536 → EReal)
    (tok : ℕ → Fin 128) : ∀ t u, ∃ r : ℝ, hid E K R B tok t u = r
  | 0, u => ⟨0, by rw [hid, EReal.coe_zero]⟩
  | t + 1, u => by rw [hid]; exact next_real (hid_real E K R B tok t) u

/-! ## The same step with the biases added where the kernel adds them -/

/-- The table entry of token `v` at column `j`: the input's contribution, plus the second bias in the two gates' columns. -/
def entry (E : Fin 128 → Fin 256 → EReal) (K : Fin 256 → Fin 1536 → EReal) (B : Fin 2 → Fin 1536 → EReal) (v : Fin 128) (j : Fin 1536) : EReal :=
  (∑ e : Fin 256, E v e * K e j) + (B 0 j + if j.val < 1024 then B 1 j else 0)

/-- In the gates' columns a table entry plus the bare product is the input's and the state's contributions. -/
theorem entry_gate {E : Fin 128 → Fin 256 → EReal} {K : Fin 256 → Fin 1536 → EReal} {R : Fin 512 → Fin 1536 → EReal}
    {B : Fin 2 → Fin 1536 → EReal} {v : Fin 128} {h : Fin 512 → EReal} {j : Fin 1536} (hj : j.val < 1024) :
    entry E K B v j + (∑ k : Fin 512, h k * R k j) = inp E K B v j + recur R B h j := by
  unfold entry inp recur
  rw [if_pos hj]
  ac_rfl

/-- In the candidate's columns a table entry is the input's contribution. -/
theorem entry_cand {E : Fin 128 → Fin 256 → EReal} {K : Fin 256 → Fin 1536 → EReal} {B : Fin 2 → Fin 1536 → EReal} {v : Fin 128}
    {j : Fin 1536} (hj : ¬ j.val < 1024) : entry E K B v j = inp E K B v j := by
  unfold entry inp
  rw [if_neg hj, add_zero]

/-- The kernel's step from a finite state: the candidate moved towards the state by the update gate, the gates'
    biases in the table. It is `next`. -/
theorem step_next {E : Fin 128 → Fin 256 → EReal} {K : Fin 256 → Fin 1536 → EReal} {R : Fin 512 → Fin 1536 → EReal}
    {B : Fin 2 → Fin 1536 → EReal} {v : Fin 128} {h : Fin 512 → EReal} (hh : ∀ u, ∃ r : ℝ, h u = r) (u : Fin 512) :
    Ideal.tanh (entry E K B v (colH u) + Ideal.logistic (entry E K B v (colR u) + ∑ k : Fin 512, h k * R k (colR u))
        * ((∑ k : Fin 512, h k * R k (colH u)) + B 1 (colH u)))
      + Ideal.logistic (entry E K B v (colZ u) + ∑ k : Fin 512, h k * R k (colZ u))
        * (h u - Ideal.tanh (entry E K B v (colH u) + Ideal.logistic (entry E K B v (colR u) + ∑ k : Fin 512, h k * R k (colR u))
            * ((∑ k : Fin 512, h k * R k (colH u)) + B 1 (colH u))))
      = next R B (inp E K B v) h u := by
  have hu := u.isLt
  rw [entry_gate (j := colR u) (show 512 + u.val < 1024 by omega), entry_gate (j := colZ u) (show u.val < 1024 by omega),
    entry_cand (j := colH u) (show ¬ 1024 + u.val < 1024 by omega)]
  rw [mix (logistic_real _) (hh u) (tanh_real _)]
  rfl

end Cert.Spec

end
-- ==== Proof.Gru.Pure.lean ====
module

public import proofs.«01_k».proof.Proof.Gru.Run
public import proofs.«01_k».proof.Proof.Spec
public import Idealize.ShloMosaic.Lib.Pointwise
public import Idealize.ShloMosaic.Lib.KernelVsHost

@[expose] public section

set_option maxRecDepth 16384

noncomputable section

namespace Cert.KernelIdeal.Gru

open Cert.KernelIdeal Cert.KernelIdeal.Gen
open Idealize.ShloMosaic Idealize.ShloMosaic.TcCoe

/-! ## The step's pieces, element by element, over the extended reals -/

/-- One step at row `b`, column `u`. -/
theorem step_apply (wzr : FVec Ideal S512x1024 .f32) (wh : FVec Ideal S512x512 .f32) (bh : FVec Ideal S1x512 .f32) (h : FVec Ideal S64x512 .f32)
    (x : FVec Ideal S1x64x1536 .bf16) (b : Fin 64) (u : Fin 512) :
    step (F := Ideal) wzr wh bh h x (ix2 b u)
      = Ideal.tanh (x (ix3 0 b (Spec.colH u)) + Ideal.logistic (x (ix3 0 b (Spec.colR u)) + ∑ k : Fin 512, h (ix2 b k) * wzr (ix2 k ⟨512 + u.val, by omega⟩))
            * ((∑ k : Fin 512, h (ix2 b k) * wh (ix2 k u)) + bh (ix2 0 u)))
        + Ideal.logistic (x (ix3 0 b (Spec.colZ u)) + ∑ k : Fin 512, h (ix2 b k) * wzr (ix2 k ⟨u.val, by omega⟩))
          * (h (ix2 b u) - Ideal.tanh (x (ix3 0 b (Spec.colH u)) + Ideal.logistic (x (ix3 0 b (Spec.colR u)) + ∑ k : Fin 512, h (ix2 b k) * wzr (ix2 k ⟨512 + u.val, by omega⟩))
            * ((∑ k : Fin 512, h (ix2 b k) * wh (ix2 k u)) + bh (ix2 0 u)))) := by
  pointwise [step, cand, gates, wide]

/-- A step's projections at row `b`: the row's one-hot vector times the table. -/
theorem proj_apply (T : FVec Ideal S128x1536 .f32) (r : FVec Ideal S64x128 .f32) (b : Fin 64) (j : Fin 1536) :
    proj (F := Ideal) T r (ix3 0 b j) = ∑ v : Fin 128, r (ix2 b v) * T (ix2 v j) := by
  pointwise [proj]

/-- The table at token `v`. -/
theorem pay3_apply (e : FVec Ideal S128x256 .f32) (k : FVec Ideal S256x1536 .f32) (bb : FVec Ideal S1x1536 .f32) (v : Fin 128) (j : Fin 1536) :
    k0_pay3 (F := Ideal) e k bb (ix2 v j) = (∑ x : Fin 256, e (ix2 v x) * k (ix2 x j)) + bb (ix2 0 j) := by
  pointwise [k0_pay3]

/-- The first state is zero. -/
theorem pay4_apply (b : Fin 64) (u : Fin 512) : k0_pay4 (F := Ideal) (ix2 b u) = 0 := by
  pointwise [k0_pay4]

/-- Whether word `w` is number `v`, as a float: one or zero. -/
def flag (w : BitVec 32) (v : Fin 128) : EReal :=
  (FloatOps.sitofp .f32 (BitVec.setWidth 32 (IntOp.cmpi .eq w (BitVec.ofNat 32 v.val))) : Ideal .f32)

/-- The one-hot flag is one where the token is the row's number. -/
theorem flag_self {w : BitVec 32} {v : Fin 128} (h : w.toNat = v.val) : flag w v = 1 := by
  have hw : w = BitVec.ofNat 32 v.val := BitVec.eq_of_toNat_eq (by rw [BitVec.toNat_ofNat, h, Nat.mod_eq_of_lt (by omega)])
  have e : IntOp.cmpi .eq w (BitVec.ofNat 32 v.val) = 1#1 := by rw [← hw]; simp [IntOp.cmpi]
  unfold flag
  rw [e]
  show (((BitVec.setWidth 32 1#1).toInt : ℝ) : EReal) = 1
  norm_num

/-- The one-hot flag is zero at every other row. -/
theorem flag_ne {w : BitVec 32} {v : Fin 128} (h : w.toNat ≠ v.val) : flag w v = 0 := by
  have hw : w ≠ BitVec.ofNat 32 v.val := fun e => h (by rw [e, BitVec.toNat_ofNat, Nat.mod_eq_of_lt (by omega)])
  have e : IntOp.cmpi .eq w (BitVec.ofNat 32 v.val) = 0#1 := by
    unfold IntOp.cmpi; rw [show (w == BitVec.ofNat 32 v.val) = false from beq_eq_false_iff_ne.mpr hw]; rfl
  unfold flag
  rw [e]
  show (((BitVec.setWidth 32 0#1).toInt : ℝ) : EReal) = 0
  norm_num

/-- The one-hot row of a word below 128 picks its entry out of any column, infinite entries elsewhere notwithstanding. -/
theorem sum_flag (w : BitVec 32) (v : Fin 128) (h : w.toNat = v.val) (f : Fin 128 → EReal) : ∑ x : Fin 128, flag w x * f x = f v := by
  rw [Finset.sum_eq_single v]
  · rw [flag_self h, one_mul]
  · intro x _ hx
    rw [flag_ne (fun e => hx (Fin.ext (by omega))), zero_mul]
  · exact fun hx => absurd (Finset.mem_univ v) hx

/-- Row `r` of a chunk's one-hot rows is that of the token of step `r / 64`, batch row `r % 64`. -/
theorem pay6_apply (x : IVec S32x64 32) (r : Fin 2048) (v : Fin 128) :
    k0_pay6 (F := Ideal) x (ix2 r v) = flag (x (ix2 ⟨r.val / 64, by omega⟩ ⟨r.val % 64, by omega⟩)) v := by
  pointwise [k0_pay6, flag]

/-- The projections of a whole chunk at row `r`. -/
theorem pay5_apply (x : IVec S32x64 32) (T : FVec Ideal S128x1536 .f32) (r : Fin 2048) (j : Fin 1536) :
    k0_pay5 (F := Ideal) x T (ix3 0 r j)
      = ∑ v : Fin 128, flag (x (ix2 ⟨r.val / 64, by omega⟩ ⟨r.val % 64, by omega⟩)) v * T (ix2 v j) := by
  pointwise [k0_pay5, flag]

/-- Block `s` of a chunk's one-hot rows, row `b`. -/
theorem hot_apply (x : IVec S32x64 32) (s : Fin 32) (b : Fin 64) (v : Fin 128) :
    hot (F := Ideal) x s.val (ix2 b v) = flag (x (ix2 s b)) v := by
  have h : ∀ a, (![64 * s.val, 0] : Fin 2 → ℕ) a + S64x128.size a ≤ S2048x128.size a := by
    intro a; fin_cases a
    · show 64 * s.val + 64 ≤ 2048; omega
    · show 0 + 128 ≤ 128; omega
  unfold hot
  rw [dif_pos h]
  unfold VecWindow.window
  have e := pay6_apply x ⟨64 * s.val + b.val, by omega⟩ v
  refine (congrArg (k0_pay6 (F := Ideal) x) ?_).trans (e.trans ?_)
  · funext a; apply Fin.ext; fin_cases a
    · show 64 * s.val + 1 * b.val = 64 * s.val + b.val; omega
    · show 0 + 1 * v.val = v.val; omega
  · congr 3
    · apply Fin.ext; show (64 * s.val + b.val) / 64 = s.val; omega
    · apply Fin.ext; show (64 * s.val + b.val) % 64 = b.val; omega

/-- Block `s` of the first chunk's projections, row `b`. -/
theorem firstX_apply (x : IVec S32x64 32) (T : FVec Ideal S128x1536 .f32) (s : Fin 32) (b : Fin 64) (j : Fin 1536) :
    firstX (F := Ideal) x T s.val (ix3 0 b j) = ∑ v : Fin 128, flag (x (ix2 s b)) v * T (ix2 v j) := by
  have h : ∀ a, (![0, 64 * s.val, 0] : Fin 3 → ℕ) a + S1x64x1536.size a ≤ S1x2048x1536.size a := by
    intro a; fin_cases a
    · show 0 + 1 ≤ 1; omega
    · show 64 * s.val + 64 ≤ 2048; omega
    · show 0 + 1536 ≤ 1536; omega
  unfold firstX
  rw [dif_pos h]
  unfold VecWindow.window
  have e := pay5_apply x T ⟨64 * s.val + b.val, by omega⟩ j
  refine (congrArg (k0_pay5 (F := Ideal) x T) ?_).trans (e.trans ?_)
  · funext a; apply Fin.ext; fin_cases a
    · rfl
    · show 64 * s.val + 1 * b.val = 64 * s.val + b.val; omega
    · show 0 + 1 * j.val = j.val; omega
  · have e1 : (⟨(64 * s.val + b.val) / 64, by omega⟩ : Fin 32) = s := Fin.ext (by show (64 * s.val + b.val) / 64 = s.val; omega)
    have e2 : (⟨(64 * s.val + b.val) % 64, by omega⟩ : Fin 64) = b := Fin.ext (by show (64 * s.val + b.val) % 64 = b.val; omega)
    simp only [e1, e2]

/-- The recurrent weights' two gate columns, as loaded. -/
theorem wzrOf_apply (r : FVec Ideal S512x1536 .f32) (k : Fin 512) (j : Fin 1024) : wzrOf (F := Ideal) r (ix2 k j) = r (ix2 k ⟨j.val, by omega⟩) := by
  unfold wzrOf VecWindow.window
  refine congrArg r (funext fun a => Fin.ext ?_)
  fin_cases a
  · show 0 + 1 * k.val = k.val; omega
  · show 0 + 1 * j.val = j.val; omega

/-- The recurrent weights' candidate columns, as loaded. -/
theorem whOf_apply (r : FVec Ideal S512x1536 .f32) (k : Fin 512) (u : Fin 512) : whOf (F := Ideal) r (ix2 k u) = r (ix2 k (Spec.colH u)) := by
  unfold whOf VecWindow.window
  refine congrArg r (funext fun a => Fin.ext ?_)
  fin_cases a
  · show 0 + 1 * k.val = k.val; omega
  · show 1024 + 1 * u.val = 1024 + u.val; omega

/-- Eight states through the output layer, at step `t` of the eight. -/
theorem group_apply (wd : FVec Ideal S512x128 .f32) (bd : FVec Ideal S1x128 .f32) (H : ℕ → FVec Ideal S64x512 .f32) (k : ℕ)
    (b : Fin 64) (t : Fin 8) (v : Fin 128) :
    group (F := Ideal) wd bd H k (ix3 b t v) = (∑ u : Fin 512, H (8 * k + t.val + 1) (ix2 b u) * wd (ix2 u v)) + bd (ix2 0 v) := by
  have hb := b.isLt
  pointwise [group, logits]
  refine congrArg₂ (· + ·) (Finset.sum_congr rfl fun u _ => congrArg (· * _) ?_) rfl
  have ht : t.val = 0 ∨ t.val = 1 ∨ t.val = 2 ∨ t.val = 3 ∨ t.val = 4 ∨ t.val = 5 ∨ t.val = 6 ∨ t.val = 7 := by omega
  rcases ht with h | h | h | h | h | h | h | h <;>
    (simp only [h]
     repeat' (first | rw [dif_neg (by omega)] | rw [dif_pos (by omega)])
     refine congrArg₂ (fun (s : ℕ) (r : Fin 64) => H s (ix2 r u)) (by omega) (Fin.ext (by simp only []; omega)))

end Cert.KernelIdeal.Gru

end
-- ==== Proof.Gru.Blocks.lean ====
module

public import proofs.«01_k».proof.Proof.Gru.Run
public import proofs.«01_k».proof.Proof.Spec
public import Idealize.ShloMosaic.Lib.Pointwise
public import Idealize.ShloMosaic.Lib.Pipeline.ValueKit

@[expose] public section

set_option maxRecDepth 16384

noncomputable section

namespace Cert.KernelIdeal.Gru

open Cert.KernelIdeal Cert.KernelIdeal.Gen
open Idealize.ShloMosaic Idealize.ShloMosaic.TcCoe
open Idealize.ShloMosaic.Pipeline (Dat)

variable (m : (ℓ : Loc nD τ sig) → Buf (Elt Ideal) ℓ)

/-- Every window's block index at point `t`. -/
theorem idx_val : ∀ t : Fin cfg0.N, win0_0.index t = ![t.val, 0] ∧ win0_1.index t = ![min (t.val + 1) 7, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, t.val, 0] ∧ t.val < 8 :=
  (by decide +kernel : ∀ t : Fin grid0.N, _)

/-- The tokens this point reads. -/
theorem blk0 (c : Dev nD) (t : Fin cfg0.N) (ht : t.val < 8) (s : Fin 32) (b : Fin 64) :
    (show IVec S32x64 32 from iblk m c 0 t) (ix2 s b)
      = (show IVec S64x256 32 from m ((c : Thread nD τ).loc main_arg0)) (ix2 b ⟨t.val * 32 + s.val, by omega⟩) := by
  blk_simp [iblk]
  entry_read
  pointwise
  blk_ext [idx_val t]

/-- The tokens of the next chunk, which this point also reads. -/
theorem blk1 (c : Dev nD) (t : Fin cfg0.N) (ht : t.val < 7) (s : Fin 32) (b : Fin 64) :
    (show IVec S32x64 32 from iblk m c 1 t) (ix2 s b)
      = (show IVec S64x256 32 from m ((c : Thread nD τ).loc main_arg0)) (ix2 b ⟨(t.val + 1) * 32 + s.val, by omega⟩) := by
  blk_simp [iblk]
  entry_read
  pointwise
  blk_ext [idx_val t]

/-- The embedding table, whole. -/
theorem blk2 (c : Dev nD) (t : Fin cfg0.N) : iblk m c 2 t = m ((c : Thread nD τ).loc main_arg1) := by
  blk_ext! [iblk, V, idx_val t]

/-- The input weights, whole. -/
theorem blk3 (c : Dev nD) (t : Fin cfg0.N) : iblk m c 3 t = m ((c : Thread nD τ).loc main_arg2) := by
  blk_ext! [iblk, V, idx_val t]

/-- The recurrent weights, whole. -/
theorem blk4 (c : Dev nD) (t : Fin cfg0.N) : iblk m c 4 t = m ((c : Thread nD τ).loc main_arg3) := by
  blk_ext! [iblk, V, idx_val t]

/-- The output layer's weights, whole. -/
theorem blk7 (c : Dev nD) (t : Fin cfg0.N) : iblk m c 7 t = m ((c : Thread nD τ).loc main_arg5) := by
  blk_ext! [iblk, V, idx_val t]

/-- The bias of the table: the first row, plus the second row in the two gates' columns. -/
theorem blk5 (c : Dev nD) (t : Fin cfg0.N) (j : Fin 1536) :
    (show FVec Ideal S1x1536 .f32 from iblk m c 5 t) (ix2 0 j)
      = (show FVec Ideal S2x1536 .f32 from m ((c : Thread nD τ).loc main_arg4)) (ix2 0 j)
        + (if j.val < 1024 then (show FVec Ideal S2x1536 .f32 from m ((c : Thread nD τ).loc main_arg4)) (ix2 1 j) else (0 : EReal)) := by
  blk_simp [iblk]
  entry_read
  pointwise
  have e : ((View.whole main_v5).slice (win0_5.rect t)).emb (ix2 0 j : S1x1536.Idx) 1 = j := Fin.ext (by blk_simp [idx_val t])
  simp only [e]
  rfl

/-- The candidate's second bias. -/
theorem blk6 (c : Dev nD) (t : Fin cfg0.N) (u : Fin 512) :
    (show FVec Ideal S1x512 .f32 from iblk m c 6 t) (ix2 0 u)
      = (show FVec Ideal S2x1536 .f32 from m ((c : Thread nD τ).loc main_arg4)) (ix2 1 (Spec.colH u)) := by
  blk_simp [iblk]
  entry_read
  pointwise
  blk_ext [idx_val t]

/-- The output layer's bias. -/
theorem blk8 (c : Dev nD) (t : Fin cfg0.N) (v : Fin 128) :
    (show FVec Ideal S1x128 .f32 from iblk m c 8 t) (ix2 0 v)
      = (show FVec Ideal S128 .f32 from m ((c : Thread nD τ).loc main_arg6)) (ix1 v) := by
  blk_simp [iblk]
  entry_read
  pointwise
  blk_ext [idx_val t]

end Cert.KernelIdeal.Gru

end
-- ==== Proof.Gru.Closed.lean ====
module

public import proofs.«01_k».proof.Proof.Gru.Pure
public import proofs.«01_k».proof.Proof.Gru.Blocks

@[expose] public section

set_option maxRecDepth 16384

noncomputable section

namespace Cert.KernelIdeal.Gru

open Cert.KernelIdeal Cert.KernelIdeal.Gen
open Idealize.ShloMosaic Idealize.ShloMosaic.TcCoe
open Idealize.ShloMosaic.Pipeline (Dat)

variable (m : (ℓ : Loc nD τ sig) → Buf (Elt Ideal) ℓ)

/-! ## The argument arrays -/

/-- The tokens. -/
abbrev argX (c : Dev nD) : IVec S64x256 32 := m ((c : Thread nD τ).loc main_arg0)
/-- The embedding table. -/
abbrev argE (c : Dev nD) : FVec Ideal S128x256 .f32 := m ((c : Thread nD τ).loc main_arg1)
/-- The input weights. -/
abbrev argK (c : Dev nD) : FVec Ideal S256x1536 .f32 := m ((c : Thread nD τ).loc main_arg2)
/-- The recurrent weights. -/
abbrev argR (c : Dev nD) : FVec Ideal S512x1536 .f32 := m ((c : Thread nD τ).loc main_arg3)
/-- The two rows of bias. -/
abbrev argB (c : Dev nD) : FVec Ideal S2x1536 .f32 := m ((c : Thread nD τ).loc main_arg4)
/-- The output layer's weights. -/
abbrev argW (c : Dev nD) : FVec Ideal S512x128 .f32 := m ((c : Thread nD τ).loc main_arg5)
/-- The output layer's bias. -/
abbrev argD (c : Dev nD) : FVec Ideal S128 .f32 := m ((c : Thread nD τ).loc main_arg6)

/-- Every token is below 128. -/
def InRange (x : IVec S64x256 32) : Prop := ∀ (b : Fin 64) (t : Fin 256), (x (ix2 b t)).toNat < 128

/-- The states of the recurrence over the launch's arrays. -/
abbrev S (c : Dev nD) : Fin 64 → ℕ → Fin 512 → EReal := Spec.states (argX m c) (argE m c) (argK m c) (argR m c) (argB m c)

/-- The table entry of the recurrence over the launch's arrays. -/
abbrev T (c : Dev nD) : Fin 128 → Fin 1536 → EReal := Spec.entry (Spec.mat (argE m c)) (Spec.mat (argK m c)) (Spec.mat (argB m c))

/-! ## The kernel's values, chunk by chunk -/

/-- The table the first point builds. -/
theorem table_apply (c : Dev nD) (v : Fin 128) (j : Fin 1536) : table m c (ix2 v j) = T m c v j := by
  unfold table
  refine (pay3_apply _ _ _ v j).trans ?_
  rw [blk2, blk3]
  exact congrArg (_ + ·) (blk5 m c (pt 0) j)

/-- A point's number below eight is kept by `pt`. -/
theorem pt_lt (n : ℕ) (h : n < 8) : (pt n).val = n := Nat.mod_eq_of_lt h

/-- A token in range is the number its word says. -/
theorem tok_val {x : IVec S64x256 32} (hx : InRange x) (b : Fin 64) (t : ℕ) (ht : t < 256) :
    (x (ix2 b ⟨t, ht⟩)).toNat = (Spec.tok x b t).val := by
  show _ = (x (ix2 b ⟨t % 256, _⟩)).toNat % 128
  have e : (⟨t % 256, Nat.mod_lt _ (by decide)⟩ : Fin 256) = ⟨t, ht⟩ := Fin.ext (Nat.mod_eq_of_lt ht)
  rw [e, Nat.mod_eq_of_lt (hx b _)]

/-- The projections of chunk `n`, step `s`: the table's row of the token there. -/
theorem projs_apply (c : Dev nD) (hx : InRange (argX m c)) (n : ℕ) (hn : n < 8) (s : Fin 32) (b : Fin 64) (j : Fin 1536) :
    projs m c n s.val (ix3 0 b j) = T m c (Spec.tok (argX m c) b (32 * n + s.val)) j := by
  have key : ∀ w : BitVec 32, w.toNat = (Spec.tok (argX m c) b (32 * n + s.val)).val →
      (∑ v : Fin 128, flag w v * table m c (ix2 v j)) = T m c (Spec.tok (argX m c) b (32 * n + s.val)) j := fun w hw => by
    rw [sum_flag w _ hw (fun v => table m c (ix2 v j))]
    exact table_apply m c _ j
  have hs := s.isLt
  match n with
  | 0 =>
    refine (firstX_apply _ (table m c) s b j).trans (key _ ?_)
    have e := blk0 m c (pt 0) (by have := pt_lt 0 (by omega); omega) s b
    refine (congrArg BitVec.toNat e).trans ?_
    have h0 : (pt 0).val * 32 + s.val = 32 * 0 + s.val := by have := pt_lt 0 (by omega); omega
    rw [← tok_val hx b (32 * 0 + s.val) (by omega)]
    exact congrArg (fun t : Fin 256 => (argX m c (ix2 b t)).toNat) (Fin.ext h0)
  | n + 1 =>
    refine (proj_apply (table m c) _ b j).trans ?_
    refine (Finset.sum_congr rfl fun v _ => congrArg (· * _) (hot_apply (iblk m c 1 (pt n)) s b v)).trans (key _ ?_)
    have e := blk1 m c (pt n) (by rw [pt_lt n (by omega)]; omega) s b
    refine (congrArg BitVec.toNat e).trans ?_
    have h0 : ((pt n).val + 1) * 32 + s.val = 32 * (n + 1) + s.val := by rw [pt_lt n (by omega)]; omega
    rw [← tok_val hx b (32 * (n + 1) + s.val) (by omega)]
    exact congrArg (fun t : Fin 256 => (argX m c (ix2 b t)).toNat) (Fin.ext h0)

/-- The states along chunk `n`: the recurrence's, from its state after the chunks before. -/
theorem along_apply (c : Dev nD) (hx : InRange (argX m c)) (n : ℕ) (hn : n < 8) (h : FVec Ideal S64x512 .f32)
    (hh : ∀ b u, h (ix2 b u) = S m c b (32 * n) u) : ∀ (t : ℕ), t ≤ 32 → ∀ (b : Fin 64) (u : Fin 512), along m c n h t (ix2 b u) = S m c b (32 * n + t) u
  | 0, _, b, u => hh b u
  | t + 1, ht, b, u => by
    have ih := along_apply c hx n hn h hh t (by omega) b
    refine (step_apply (wzrOf (iblk m c 4 (pt n))) (whOf (iblk m c 4 (pt n))) (iblk m c 6 (pt n)) (along m c n h t) (projs m c n t) b u).trans ?_
    have hp := projs_apply m c hx n hn ⟨t, by omega⟩ b
    have e6 := blk6 m c (pt n) u
    have hz : ∀ (k : Fin 512) (j : Fin 1024), wzrOf (F := Ideal) (iblk m c 4 (pt n)) (ix2 k j) = Spec.mat (argR m c) k ⟨j.val, by omega⟩ := fun k j => by
      rw [blk4]; exact wzrOf_apply _ k j
    have hw : ∀ (k : Fin 512) (j : Fin 512), whOf (F := Ideal) (iblk m c 4 (pt n)) (ix2 k j) = Spec.mat (argR m c) k (Spec.colH j) := fun k j => by
      rw [blk4]; exact whOf_apply _ k j
    simp only [hz, hw, ih, hp]
    refine Eq.trans ?_ (Spec.step_next (E := Spec.mat (argE m c)) (K := Spec.mat (argK m c)) (R := Spec.mat (argR m c)) (B := Spec.mat (argB m c))
      (v := Spec.tok (argX m c) b (32 * n + t)) (h := S m c b (32 * n + t)) (Spec.hid_real _ _ _ _ _ _) u)
    rw [show (iblk m c 6 (pt n) : FVec Ideal S1x512 .f32) (ix2 0 u) = Spec.mat (argB m c) 1 (Spec.colH u) from e6]

/-- The state chunk `n` starts from. -/
theorem start_apply (c : Dev nD) (hx : InRange (argX m c)) : ∀ (n : ℕ), n ≤ 8 → ∀ (b : Fin 64) (u : Fin 512), start m c n (ix2 b u) = S m c b (32 * n) u
  | 0, _, b, u => pay4_apply b u
  | n + 1, hn, b, u => along_apply m c hx n (by omega) (start m c n) (start_apply c hx n (by omega)) 32 le_rfl b u

/-- The output array: the problem's logits. -/
abbrev G (c : Dev nD) : FVec Ideal S64x256x128 .f32 :=
  Spec.result (argX m c) (argE m c) (argK m c) (argR m c) (argB m c) (argW m c) (argD m c)

/-- The output block of chunk `n`. -/
theorem block_apply (c : Dev nD) (hx : InRange (argX m c)) (n : ℕ) (hn : n < 8) (b : Fin 64) (s : Fin 32) (v : Fin 128) :
    block m c n (ix3 b s v) = G m c (ix3 b ⟨n * 32 + s.val, by omega⟩ v) := by
  have hs := s.isLt
  refine (group_apply (iblk m c 7 (pt n)) (iblk m c 8 (pt n)) (along m c n (start m c n)) (s.val / 8) b ⟨s.val % 8, by omega⟩ v).trans ?_
  show _ = Spec.out (Spec.mat (argW m c)) (fun v => argD m c (ix1 v)) (S m c b (n * 32 + s.val + 1)) v
  unfold Spec.out
  have e8 := blk8 m c (pt n) v
  refine congrArg₂ (· + ·) (Finset.sum_congr rfl fun u _ => congrArg₂ (· * ·) ?_ ?_) e8
  · rw [show 8 * (s.val / 8) + s.val % 8 + 1 = s.val + 1 by omega]
    rw [along_apply m c hx n hn (start m c n) (start_apply m c hx n (by omega)) (s.val + 1) (by omega) b u]
    rw [show 32 * n + (s.val + 1) = n * 32 + s.val + 1 by omega]
  · rw [blk7]; rfl

/-- The result array after the run. -/
theorem final (c : Dev nD) (hx : InRange (argX m c)) : (dats m 0 c).arrAt 9 (cfgs 0).N = G m c := by
  refine (dats m 0 c).arrAt_eq_of_covers 9 _ (by decide +kernel) fun t _ y => ?_
  blk_simp
  rw [after_9]
  idx_vars y
  refine (block_apply m c hx t.val t.isLt y0 y1 y2).trans (congrArg (G m c) ?_)
  blk_ext [idx_val t]

end Cert.KernelIdeal.Gru

end
-- ==== Proof.Ref.Entry.lean ====
module

public import proofs.«01_k».proof.Proof.Gen.ReferenceIdeal.Run
public import proofs.«01_k».proof.Proof.Spec
public import Idealize.ShloMosaic.Lib.Pointwise
public import Idealize.ShloMosaic.Lib.ReduceAll
public import Idealize.ShloMosaic.Lib.StableHlo.Predicate

@[expose] public section

set_option maxRecDepth 16384

noncomputable section

namespace Cert.ReferenceIdeal.Gru

open Cert.ReferenceIdeal Cert.ReferenceIdeal.Gen Cert.ReferenceIdeal.Value
open Idealize.ShloMosaic Idealize.ShloMosaic.TcCoe

open Idealize.ShloMosaic.StableHlo

variable (m : (ℓ : Loc nD τ sig) → Buf (Elt Ideal) ℓ)

/-! ## Looking a token up -/

/-- The gather at an index: the table's row at the start index, read signed and clamped into the table. -/
theorem gather_apply (x : FVec Ideal S128x256 .f32) (idx : IVec S64x256x1 32) (b : Fin 64) (t : Fin 256) (e : Fin 256) :
    Host.gather gather_S128x256_S64x256x1_S64x256x256_2_0_n_n_0_2_1256 x idx (ix3 b t e)
      = x (ix2 ⟨min (idx (ix3 b t 0)).toInt.toNat 127, by omega⟩ e) := by
  unfold Host.gather
  refine congrArg x (funext fun a => Fin.ext ?_)
  show GatherDims.start _ (ix3 b t e) idx a + GatherDims.batchCoord _ (ix3 b t e) a + GatherDims.offCoord _ (ix3 b t e) a = _
  rw [GatherDims.batchCoord_eq_zero _ _ _ List.not_mem_nil, Nat.add_zero]
  rcases (by decide : ∀ a : Fin 2, a = 0 ∨ a = 1) a with h | h
  · subst h
    rw [GatherDims.offCoord_eq_zero _ _ _ (fun h => ((GatherDims.mem_sKept _ _).mp h).1 (List.mem_singleton.mpr rfl)), Nat.add_zero]
    unfold GatherDims.start
    rw [dif_pos (show (0 : Fin 2) ∈ GatherDims.startIndexMap gather_S128x256_S64x256x1_S64x256x256_2_0_n_n_0_2_1256 from List.mem_singleton.mpr rfl)]
    have hs : ∀ h, GatherDims.siIdx gather_S128x256_S64x256x1_S64x256x256_2_0_n_n_0_2_1256 (ix3 b t e)
        ⟨List.idxOf (0 : Fin 2) (GatherDims.startIndexMap gather_S128x256_S64x256x1_S64x256x256_2_0_n_n_0_2_1256), h⟩ = ix3 b t 0 :=
      fun h => funext fun k => Fin.ext (match k with | ⟨0, _⟩ => rfl | ⟨1, _⟩ => rfl | ⟨2, _⟩ => rfl)
    rw [hs]
    rfl
  · subst h
    unfold GatherDims.start
    rw [dif_neg (show (1 : Fin 2) ∉ GatherDims.startIndexMap gather_S128x256_S64x256x1_S64x256x256_2_0_n_n_0_2_1256 from by decide), Nat.zero_add]
    rfl

/-- The index array of the lookup: a negative token counts from the table's end. -/
def wrapped (x : IVec S64x256 32) : IVec S64x256x1 32 :=
  broadcastInDim S64x256x1 ![0, 1] bcast_S64x256_S64x256x1_0_1
    (select (cmpi .slt x (broadcastInDim S64x256 ![] bcast_S_S64x256 (constantI S_ 32 0#32)))
      (addi x (broadcastInDim S64x256 ![] bcast_S_S64x256 (constantI S_ 32 128#32))) x)

/-- Where the index lies inside the table. -/
def inside (i : IVec S64x256x1 32) : IVec S64x256x1 1 :=
  andi (cmpi .sge i (broadcastInDim S64x256x1 ![] bcast_S_S64x256x1 (constantI S_ 32 0#32)))
    (cmpi .sle i (broadcastInDim S64x256x1 ![0, 1, 2] bcast_S1x1x1_S64x256x1_0_1_2 (broadcastInDim S1x1x1 ![2] bcast_S1_S1x1x1_2 (constantI S1 32 127#32))))

/-- The looked-up rows: the gather where the index is inside, a filler elsewhere. -/
def taken (x : IVec S64x256 32) (E : FVec Ideal S128x256 .f32) : FVec Ideal S64x256x256 .f32 :=
  select (broadcastInDim S64x256x256 ![0, 1] bcast_S64x256_S64x256x256_0_1
      (Host.reduce IntOp.andi (inside (wrapped x)) (constantI S_ 1 1#1) reducesTo_S64x256x1_S64x256_d2 h_S_))
    (Host.gather gather_S128x256_S64x256x1_S64x256x256_2_0_n_n_0_2_1256 E (wrapped x))
    (broadcastInDim S64x256x256 ![] bcast_S_S64x256x256 (constant S_ .f32 0x7FC00000#32))

/-- A word below 128 is not negative, so it is its own index. -/
theorem wrapped_apply (x : IVec S64x256 32) (b : Fin 64) (t : Fin 256) (o : Fin 1) (h : (x (ix2 b t)).toNat < 128) :
    wrapped x (ix3 b t o) = x (ix2 b t) := by
  unfold wrapped
  pointwise
  have : ¬ IntOp.cmpi .slt (x (ix2 b t)) 0#32 = 1#1 := by
    rw [StableHlo.Predicate.slt_iff_toNat (by omega) (by decide)]; simp
  simp [Scalar.select, this]

/-- A word below 128 lies inside the table. -/
theorem inside_apply (x : IVec S64x256 32) (hx : ∀ (b : Fin 64) (t : Fin 256), (x (ix2 b t)).toNat < 128) (i : S64x256x1.Idx) :
    inside (wrapped x) i = 1#1 := by
  idx_vars i
  unfold inside
  pointwise
  have h := hx i0 i1
  rw [wrapped_apply x i0 i1 i2 h, (StableHlo.Predicate.sge_iff_toNat (by omega) (by decide)).mpr (Nat.zero_le _),
    (StableHlo.Predicate.sle_iff_toNat (by omega) (by decide)).mpr (show _ ≤ 127 by omega)]
  rfl

/-- The looked-up row of a token below 128: the table's row of that number. -/
theorem taken_apply (x : IVec S64x256 32) (E : FVec Ideal S128x256 .f32) (hx : ∀ (b : Fin 64) (t : Fin 256), (x (ix2 b t)).toNat < 128)
    (b : Fin 64) (t : Fin 256) (e : Fin 256) : taken x E (ix3 b t e) = Spec.mat E (Spec.tok x b t.val) e := by
  have hm : Host.reduce IntOp.andi (inside (wrapped x)) (constantI S_ 1 1#1) reducesTo_S64x256x1_S64x256_d2 h_S_ = fun _ => 1#1 :=
    funext fun j => Host.reduce_andi_one _ _ _ _ j rfl (inside_apply x hx)
  unfold taken
  rw [hm]
  pointwise
  have et : (⟨t.val % 256, Nat.mod_lt _ (by decide)⟩ : Fin 256) = t := Fin.ext (Nat.mod_eq_of_lt t.isLt)
  refine (gather_apply E (wrapped x) b t e).trans (congrArg (fun v => E (ix2 v e)) (Fin.ext ?_))
  show min (wrapped x (ix3 b t 0)).toInt.toNat 127 = (x (ix2 b ⟨t.val % 256, _⟩)).toNat % 128
  have h := hx b t
  rw [wrapped_apply x b t 0 h, et, StableHlo.Predicate.toInt_eq_toNat_of_lt (by omega)]
  omega

/-! ## What the loop starts from -/

/-- The inputs: the looked-up rows, by time step. -/
theorem entry_v4_0 (c : Dev nD) : entryContents preI m c (Proc.devRef .tc main_v4_0)
    = transpose S256x64x256 [1, 0, 2] (taken (m ((c.tc : Thread nD τ).loc main_arg0)) (m ((c.tc : Thread nD τ).loc main_arg1))) transposes_S64x256x256_S256x64x256_1_0_2 := by
  simp only [entryContents, afterL_cons, afterL_nil]
  after_reads_simp
  simp only [StableHlo.TRef.ofBuf_toBuf, id_eq]
  have h0 : (.of main_arg0 : StableHlo.TRef sig ⟨S64x256, .i32⟩).ofBuf (launchContents m c (Proc.devRef .tc main_arg0)) = m ((c.tc : Thread nD τ).loc main_arg0) := rfl
  have h1 : (.of main_arg1 : StableHlo.TRef sig ⟨S128x256, .f32⟩).ofBuf (launchContents m c (Proc.devRef .tc main_arg1)) = m ((c.tc : Thread nD τ).loc main_arg1) := rfl
  have h2 : ∀ y : FVec Ideal S64x256x256 .f32, (.of main_v0 : StableHlo.TRef sig ⟨S64x256x256, .f32⟩).toBuf (Val := Elt Ideal) y = y := fun _ => rfl
  rw [h0, h1]
  unfold taken inside wrapped
  exact congrArg (fun y => transpose S256x64x256 [1, 0, 2] y transposes_S64x256x256_S256x64x256_1_0_2) (h2 _)

/-- The input weights, as the launch has them. -/
theorem entry_v4_1 (c : Dev nD) : entryContents preI m c (Proc.devRef .tc main_v4_1) = m ((c.tc : Thread nD τ).loc main_arg2) := by
  simp only [entryContents, afterL_cons, afterL_nil]
  after_reads_simp
  rfl

/-- The bias, as the launch has it. -/
theorem entry_v4_2 (c : Dev nD) : entryContents preI m c (Proc.devRef .tc main_v4_2) = m ((c.tc : Thread nD τ).loc main_arg4) := by
  simp only [entryContents, afterL_cons, afterL_nil]
  after_reads_simp
  rfl

/-- The recurrent weights, as the launch has them. -/
theorem entry_v4_3 (c : Dev nD) : entryContents preI m c (Proc.devRef .tc main_v4_3) = m ((c.tc : Thread nD τ).loc main_arg3) := by
  simp only [entryContents, afterL_cons, afterL_nil]
  after_reads_simp
  rfl

/-- The state: zero. -/
theorem entry_v4_5 (c : Dev nD) (b : Fin 64) (u : Fin 512) :
    (show FVec Ideal S64x512 .f32 from entryContents preI m c (Proc.devRef .tc main_v4_5)) (ix2 b u) = (0 : EReal) := by
  simp only [entryContents, afterL_cons, afterL_nil]
  after_reads_simp
  simp only [id_eq]
  pointwise

end Cert.ReferenceIdeal.Gru

end
-- ==== Proof.Ref.Trip.lean ====
module

public import proofs.«01_k».proof.Proof.Gen.ReferenceIdeal.Run
public import proofs.«01_k».proof.Proof.Spec
public import Idealize.ShloMosaic.Lib.Pointwise
public import Idealize.ShloMosaic.Lib.DynamicIndex
public import Idealize.ShloMosaic.Lib.WordCmp

@[expose] public section

set_option maxRecDepth 16384

noncomputable section

namespace Cert.ReferenceIdeal.Gru

open Cert.ReferenceIdeal Cert.ReferenceIdeal.Gen Cert.ReferenceIdeal.Value
open Idealize.ShloMosaic Idealize.ShloMosaic.TcCoe

/-! ## One trip of the reference's loop

The carried buffers are read at their types: the inputs by time step, the three weights, the state, the states so far. -/

/-- The inputs, by time step. -/
abbrev cX (V : Valuation τ sig (Elt Ideal)) : FVec Ideal S256x64x256 .f32 := V (Proc.devRef .tc main_v4_0)
/-- The input weights. -/
abbrev cK (V : Valuation τ sig (Elt Ideal)) : FVec Ideal S256x1536 .f32 := V (Proc.devRef .tc main_v4_1)
/-- The bias. -/
abbrev cB (V : Valuation τ sig (Elt Ideal)) : FVec Ideal S2x1536 .f32 := V (Proc.devRef .tc main_v4_2)
/-- The recurrent weights. -/
abbrev cR (V : Valuation τ sig (Elt Ideal)) : FVec Ideal S512x1536 .f32 := V (Proc.devRef .tc main_v4_3)
/-- The counter. -/
abbrev cI (V : Valuation τ sig (Elt Ideal)) : IVec S_ 32 := V (Proc.devRef .tc main_v4_4)
/-- The state. -/
abbrev cH (V : Valuation τ sig (Elt Ideal)) : FVec Ideal S64x512 .f32 := V (Proc.devRef .tc main_v4_5)
/-- The states written so far. -/
abbrev cO (V : Valuation τ sig (Elt Ideal)) : FVec Ideal S256x64x512 .f32 := V (Proc.devRef .tc main_v4_6)

variable (V : Valuation τ sig (Elt Ideal))

/-- A start that lies inside is not clamped: at counter `k`, step `k` of the inputs. -/
theorem start_val (k : ℕ) (hk : k < 256) (hi : cI V = fun _ => BitVec.ofNat 32 k) (a : Fin 3) :
    BitVec.toInt (![cI V, constantI S_ 32 0#32, constantI S_ 32 0#32] a (Shape.Idx.first h_S_)) = (![k, 0, 0] a : ℕ) := by
  match a with
  | ⟨0, _⟩ => show BitVec.toInt (cI V _) = (k : ℤ); rw [hi]; exact toInt_ofNat_of_lt (by omega)
  | ⟨1, _⟩ => rfl
  | ⟨2, _⟩ => rfl

/-- The input projection of one trip, as an array. -/
abbrev px : FVec Ideal S64x1536 .f32 := res_main_while0b_v16 V
/-- The recurrent projection of one trip, as an array. -/
abbrev ph : FVec Ideal S64x1536 .f32 := res_main_while0b_v22 V
/-- The update gate of one trip, as an array. -/
abbrev pz : FVec Ideal S64x512 .f32 := res_main_while0b_v35 V
/-- The new state of one trip, as an array. -/
abbrev pn : FVec Ideal S64x512 .f32 := res_main_while0b_v50 V

/-- The input projection of one trip. -/
theorem px_apply (k : ℕ) (hk : k < 256) (hi : cI V = fun _ => BitVec.ofNat 32 k) (b : Fin 64) (j : Fin 1536) :
    px V (ix2 b j) = (∑ e : Fin 256, cX V (ix3 ⟨k, hk⟩ b e) * cK V (ix2 e j)) + cB V (ix2 0 j) := by
  have hf : S256x64x256.Slices ![k, 0, 0] S1x64x256 := ⟨rfl, fun a => match a with
    | ⟨0, _⟩ => show k + 1 ≤ 256 by omega
    | ⟨1, _⟩ => show 0 + 64 ≤ 64 by omega
    | ⟨2, _⟩ => show 0 + 256 ≤ 256 by omega⟩
  unfold px res_main_while0b_v16
  rw [Host.dynamicSlice_eq_extractStridedSlice S1x64x256 (V (Proc.devRef .tc main_v4_0)) (fun a => BitVec.toInt ((![V (Proc.devRef .tc main_v4_4), constantI S_ 32 0#32, constantI S_ 32 0#32] : Fin 3 → (⟨S_, .i32⟩ : BufTy).Contents (Elt Ideal)) a (Shape.Idx.first h_S_))) ![k, 0, 0] sliceFits_S256x64x256_S1x64x256 hf (start_val V k hk hi)]
  pointwise

/-- The recurrent projection of one trip. -/
theorem ph_apply (b : Fin 64) (j : Fin 1536) : ph V (ix2 b j) = Spec.recur (Spec.mat (cR V)) (Spec.mat (cB V)) (fun u => cH V (ix2 b u)) j := by
  unfold ph res_main_while0b_v22 Spec.recur
  pointwise
  rfl

/-- The update gate of one trip. -/
theorem pz_apply (b : Fin 64) (u : Fin 512) : pz V (ix2 b u) = Ideal.logistic (px V (ix2 b (Spec.colZ u)) + ph V (ix2 b (Spec.colZ u))) := by
  unfold pz res_main_while0b_v35 Ideal.logistic
  pointwise

/-- The new state of one trip. -/
theorem pn_apply (b : Fin 64) (u : Fin 512) :
    pn V (ix2 b u) = Spec.next (Spec.mat (cR V)) (Spec.mat (cB V)) (fun j => px V (ix2 b j)) (fun u => cH V (ix2 b u)) u := by
  have e : pn V (ix2 b u) = pz V (ix2 b u) * cH V (ix2 b u) + (1 - pz V (ix2 b u)) * Ideal.tanh (px V (ix2 b (Spec.colH u))
      + Ideal.logistic (px V (ix2 b (Spec.colR u)) + ph V (ix2 b (Spec.colR u))) * ph V (ix2 b (Spec.colH u))) := by
    unfold pn res_main_while0b_v50 Ideal.logistic
    pointwise
  rw [e, pz_apply, ph_apply, ph_apply, ph_apply]
  rfl

/-- The states after one trip: the new one at the counter's step, the others as they were. -/
theorem cO_step (k : ℕ) (hk : k < 256) (hi : cI V = fun _ => BitVec.ofNat 32 k) (t : Fin 256) (b : Fin 64) (u : Fin 512) :
    cO (STEP V) (ix3 t b u) = if t.val = k then pn V (ix2 b u) else cO V (ix3 t b u) := by
  have hf : S256x64x512.Slices ![k, 0, 0] S1x64x512 := ⟨rfl, fun a => match a with
    | ⟨0, _⟩ => show k + 1 ≤ 256 by omega
    | ⟨1, _⟩ => show 0 + 64 ≤ 64 by omega
    | ⟨2, _⟩ => show 0 + 512 ≤ 512 by omega⟩
  rw [show cO (STEP V) = _ from STEP_main_v4_6 V]
  unfold step_main_v4_6
  rw [id_eq, WordCmp.dynamicUpdateSlice_eq_update (V (Proc.devRef .tc main_v4_6)) _ (fun a => BitVec.toInt ((![V (Proc.devRef .tc main_v4_4), constantI S_ 32 0#32, constantI S_ 32 0#32] : Fin 3 → (⟨S_, .i32⟩ : BufTy).Contents (Elt Ideal)) a (Shape.Idx.first h_S_))) updateFits_S256x64x512_S1x64x512 ![k, 0, 0] hf (start_val V k hk hi)]
  pointwise
  by_cases ht : t.val = k
  · rw [if_pos ht]
    refine dif_pos fun a => ?_
    match a with
    | ⟨0, _⟩ => exact ⟨show k ≤ t.val by omega, show t.val < k + 1 by omega⟩
    | ⟨1, _⟩ => exact ⟨Nat.zero_le _, show b.val < 0 + 64 by omega⟩
    | ⟨2, _⟩ => exact ⟨Nat.zero_le _, show u.val < 0 + 512 by omega⟩
  · rw [if_neg ht]
    refine dif_neg fun h => ht ?_
    have h1 : k ≤ t.val := (h (0 : Fin 3)).1
    have h2 : t.val < k + 1 := (h (0 : Fin 3)).2
    omega

end Cert.ReferenceIdeal.Gru

end
-- ==== Proof.Ref.Loop.lean ====
module

public import proofs.«01_k».proof.Proof.Ref.Entry
public import proofs.«01_k».proof.Proof.Ref.Trip

@[expose] public section

set_option maxRecDepth 16384

noncomputable section

namespace Cert.ReferenceIdeal.Gru

open Cert.ReferenceIdeal Cert.ReferenceIdeal.Gen Cert.ReferenceIdeal.Value
open Idealize.ShloMosaic Idealize.ShloMosaic.TcCoe

open Idealize.ShloMosaic.StableHlo

variable (m : (ℓ : Loc nD τ sig) → Buf (Elt Ideal) ℓ)

/-! ## The loop, and the result -/

/-- The tokens. -/
abbrev argX (c : Dev nD) : IVec S64x256 32 := m ((c.tc : Thread nD τ).loc main_arg0)
/-- The embedding table. -/
abbrev argE (c : Dev nD) : FVec Ideal S128x256 .f32 := m ((c.tc : Thread nD τ).loc main_arg1)
/-- The input weights. -/
abbrev argK (c : Dev nD) : FVec Ideal S256x1536 .f32 := m ((c.tc : Thread nD τ).loc main_arg2)
/-- The recurrent weights. -/
abbrev argR (c : Dev nD) : FVec Ideal S512x1536 .f32 := m ((c.tc : Thread nD τ).loc main_arg3)
/-- The two rows of bias. -/
abbrev argB (c : Dev nD) : FVec Ideal S2x1536 .f32 := m ((c.tc : Thread nD τ).loc main_arg4)
/-- The output layer's weights. -/
abbrev argW (c : Dev nD) : FVec Ideal S512x128 .f32 := m ((c.tc : Thread nD τ).loc main_arg5)
/-- The output layer's bias. -/
abbrev argD (c : Dev nD) : FVec Ideal S128 .f32 := m ((c.tc : Thread nD τ).loc main_arg6)

/-- The states of the recurrence over the launch's arrays. -/
abbrev S (c : Dev nD) : Fin 64 → ℕ → Fin 512 → EReal := Spec.states (argX m c) (argE m c) (argK m c) (argR m c) (argB m c)

/-- The buffers after `k` trips. -/
def at_ (c : Dev nD) (k : ℕ) : Valuation τ sig (Elt Ideal) := STEP^[k] (entryContents preI m c)

/-- One more trip is one more application of the step. -/
theorem at_succ (c : Dev nD) (k : ℕ) : at_ m c (k + 1) = STEP (at_ m c k) := Function.iterate_succ_apply' _ _ _

/-- No trip changes the output layer's weights. -/
theorem at_W (c : Dev nD) (k : ℕ) : at_ m c k (Proc.devRef .tc main_arg5) = argW m c := iter_main_arg5 m c k

/-- No trip changes the output layer's bias. -/
theorem at_D (c : Dev nD) (k : ℕ) : at_ m c k (Proc.devRef .tc main_arg6) = argD m c := iter_main_arg6 m c k

/-- No trip changes the inputs. -/
theorem at_X (c : Dev nD) : ∀ k, cX (at_ m c k)
    = transpose S256x64x256 [1, 0, 2] (taken (argX m c) (argE m c)) transposes_S64x256x256_S256x64x256_1_0_2
  | 0 => entry_v4_0 m c
  | k + 1 => by rw [at_succ]; exact (STEP_main_v4_0 _).trans (at_X c k)

/-- No trip changes the input weights. -/
theorem at_K (c : Dev nD) : ∀ k, cK (at_ m c k) = argK m c
  | 0 => entry_v4_1 m c
  | k + 1 => by rw [at_succ]; exact (STEP_main_v4_1 _).trans (at_K c k)

/-- No trip changes the bias. -/
theorem at_B (c : Dev nD) : ∀ k, cB (at_ m c k) = argB m c
  | 0 => entry_v4_2 m c
  | k + 1 => by rw [at_succ]; exact (STEP_main_v4_2 _).trans (at_B c k)

/-- No trip changes the recurrent weights. -/
theorem at_R (c : Dev nD) : ∀ k, cR (at_ m c k) = argR m c
  | 0 => entry_v4_3 m c
  | k + 1 => by rw [at_succ]; exact (STEP_main_v4_3 _).trans (at_R c k)

/-- The counter counts the trips. -/
theorem at_I (c : Dev nD) : ∀ k, cI (at_ m c k) = fun _ => BitVec.ofNat 32 k
  | 0 => ctr_entry m c
  | k + 1 => by
    rw [at_succ]
    refine (STEP_main_v4_4 _).trans ?_
    unfold step_main_v4_4
    rw [show (at_ m c k) (Proc.devRef .tc main_v4_4) = _ from at_I c k]
    funext i
    show BitVec.ofNat 32 k + 1#32 = _
    rw [BitVec.ofNat_add]

variable (hx : ∀ c : Dev nD, ∀ (b : Fin 64) (t : Fin 256), (argX m c (ix2 b t)).toNat < 128)
include hx

/-- The input projection of trip `k`: the input's contribution of token `k`. -/
theorem at_px (c : Dev nD) (k : ℕ) (hk : k < 256) (b : Fin 64) (j : Fin 1536) :
    px (at_ m c k) (ix2 b j) = Spec.inp (Spec.mat (argE m c)) (Spec.mat (argK m c)) (Spec.mat (argB m c)) (Spec.tok (argX m c) b k) j := by
  rw [px_apply _ k hk (at_I m c k), at_X, at_K, at_B]
  unfold Spec.inp
  refine congrArg₂ (· + ·) (Finset.sum_congr rfl fun e _ => congrArg₂ (· * ·) ?_ rfl) rfl
  refine Eq.trans ?_ (taken_apply (argX m c) (argE m c) (hx c) b ⟨k, hk⟩ e)
  pointwise

/-- The state after `k` trips: the recurrence's after `k` tokens. -/
theorem at_H (c : Dev nD) : ∀ k, k ≤ 256 → ∀ (b : Fin 64) (u : Fin 512), cH (at_ m c k) (ix2 b u) = S m c b k u
  | 0, _, b, u => entry_v4_5 m c b u
  | k + 1, hk, b, u => by
    rw [at_succ]
    refine (congrFun (STEP_main_v4_5 (at_ m c k)) (ix2 b u)).trans ((pn_apply (at_ m c k) b u).trans ?_)
    rw [at_R, at_B, show (fun j => px (at_ m c k) (ix2 b j)) = _ from funext (at_px m hx c k (by omega) b),
      show (fun u => cH (at_ m c k) (ix2 b u)) = _ from funext (at_H c k (by omega) b)]
    rfl

/-- The states written after `k` trips: of every step before `k`, the recurrence's after it. -/
theorem at_O (c : Dev nD) : ∀ k, k ≤ 256 → ∀ (t : Fin 256), t.val < k → ∀ (b : Fin 64) (u : Fin 512), cO (at_ m c k) (ix3 t b u) = S m c b (t.val + 1) u
  | 0, _, t, ht, b, u => absurd ht (Nat.not_lt_zero _)
  | k + 1, hk, t, ht, b, u => by
    rw [at_succ, cO_step (at_ m c k) k (by omega) (at_I m c k)]
    by_cases h : t.val = k
    · rw [if_pos h, h, ← at_H m hx c (k + 1) hk b u, at_succ]
      exact (congrFun (STEP_main_v4_5 (at_ m c k)) (ix2 b u)).symm
    · rw [if_neg h]
      exact at_O c k (by omega) t (by omega) b u

omit hx in
/-- The output layer over any buffers whose written states are the recurrence's. -/
theorem out_of (c : Dev nD) (W : Valuation τ sig (Elt Ideal)) (h5 : W (Proc.devRef .tc main_arg5) = argW m c) (h6 : W (Proc.devRef .tc main_arg6) = argD m c)
    (hO : ∀ (t : Fin 256) (b : Fin 64) (u : Fin 512), cO W (ix3 t b u) = S m c b (t.val + 1) u) :
    out_main_v9 W = Spec.result (argX m c) (argE m c) (argK m c) (argR m c) (argB m c) (argW m c) (argD m c) := by
  unfold out_main_v9
  rw [h5, h6]
  funext i
  change S64x256x128.Idx at i
  idx_vars i
  pointwise
  show _ = Spec.out (Spec.mat (argW m c)) (fun v => argD m c (ix1 v)) (S m c i0 (i1.val + 1)) i2
  unfold Spec.out
  exact congrArg₂ (· + ·) (Finset.sum_congr rfl fun u _ => congrArg₂ (· * ·) (hO i1 i0 u) rfl) rfl

/-- The reference's result: the problem's logits. -/
theorem out_eq (c : Dev nD) (k : ℕ) (hk : k = 256) : out_main_v9 (STEP^[k] (entryContents preI m c))
    = Spec.result (argX m c) (argE m c) (argK m c) (argR m c) (argB m c) (argW m c) (argD m c) :=
  out_of m c (at_ m c k) (at_W m c k) (at_D m c k) fun t b u => at_O m hx c k (by omega) t (by have := t.isLt; omega) b u

end Cert.ReferenceIdeal.Gru

end
-- ==== Proof.Range.lean ====
module

public import proofs.«01_k».proof.Pre_tokens_in_range
public import proofs.«01_k».proof.Proof.Spec
public import Idealize.ShloMosaic.Lib.Pointwise
public import Idealize.ShloMosaic.Lib.StableHlo.Predicate

@[expose] public section

noncomputable section

namespace Cert.Pre_tokens_in_range

open Idealize.ShloMosaic

/-- A scalar broadcasts to the token array's shape. -/
theorem facts : Facts := ⟨by decide⟩

/-- A word that is signed at least 0 and signed below 128 is below 128 unsigned. -/
theorem word_lt (w : BitVec 32) (h : IntOp.andi (IntOp.cmpi .sge w 0#32) (IntOp.cmpi .slt w 128#32) = 1#1) : w.toNat < 128 := by
  have h' : (BitVec.ofBool ((0#32 : BitVec 32).sle w)) &&& (BitVec.ofBool (w.slt 128#32)) = 1#1 := h
  have key : ((0#32 : BitVec 32).sle w = true) ∧ (w.slt 128#32 = true) := by
    cases h0 : (0#32 : BitVec 32).sle w <;> cases h1 : w.slt 128#32 <;> rw [h0, h1] at h' <;> first | exact ⟨rfl, rfl⟩ | exact absurd h' (by decide)
  obtain ⟨h0, h1⟩ := key
  simp only [BitVec.sle, BitVec.slt, decide_eq_true_eq] at h0 h1
  have e : (0#32 : BitVec 32).toInt = 0 := by decide
  have e' : (128#32 : BitVec 32).toInt = 128 := by decide
  rw [e] at h0
  rw [e'] at h1
  rw [BitVec.toInt_eq_toNat_cond] at h0 h1
  split at h0 <;> omega

/-- Where the precondition's array is all ones, every token is below 128. -/
theorem tokens_lt [Facts] (x : IVec S64x256 32) (E : FVec Ideal S128x256 .f32) (K : FVec Ideal S256x1536 .f32) (R : FVec Ideal S512x1536 .f32)
    (B : FVec Ideal S2x1536 .f32) (W : FVec Ideal S512x128 .f32) (d : FVec Ideal S128 .f32)
    (h : fn x E K R B W d = fun _ => 1#1) (b : Fin 64) (t : Fin 256) : (x (ix2 b t)).toNat < 128 := by
  refine word_lt _ ?_
  have e := congrFun h (ix2 b t)
  unfold fn at e
  pointwise at e
  exact e

end Cert.Pre_tokens_in_range

end
-- ==== Proof.lean ====
/- The certificate: the kernel's and the reference's frames, and the equality of their logits over the reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.GruK.Run
public import proofs.«01_k».proof.Proof.Gru.Closed
public import proofs.«01_k».proof.Proof.Ref.Loop
public import proofs.«01_k».proof.Proof.Range
public import Idealize.ShloMosaic.Adequacy
public import Idealize.ShloMosaic.Init

@[expose] public section

noncomputable section

namespace Cert.Proof

open Idealize.ShloMosaic Idealize.ShloMosaic.TcCoe Idealize.SL.Sem

/-- The reference runs, its arguments end unchanged and every counter is zero: it has no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel's run: the result array ends at the problem's logits of the launch's arrays, the arguments unchanged. -/
theorem run_kernel (m : (ℓ : Loc Cert.KernelIdeal.nD Cert.KernelIdeal.τ Cert.KernelIdeal.sig) → Buf (Elt Ideal) ℓ) (ρ : Dev Cert.KernelIdeal.nD → PrngReg)
    (hx : ∀ c, Cert.KernelIdeal.Gru.InRange (Cert.KernelIdeal.Gru.argX m c)) :
    θ_run (Cert.KernelIdeal.defs (F := Ideal)) (onTc (τ := Cert.KernelIdeal.τ) (Cert.KernelIdeal.main (F := Ideal))) ⟨m, fun _ => 0, ρ⟩ (fun r =>
      ∀ c : Dev Cert.KernelIdeal.nD, r.2.mem ((c.tc : Thread Cert.KernelIdeal.nD Cert.KernelIdeal.τ).loc Cert.KernelIdeal.main_v8) = Cert.KernelIdeal.Gru.G m c) :=
  (θ_run _ _ _).mono (fun r h c => ((h c).1 9).trans (Cert.KernelIdeal.Gru.final m c (hx c))) (Cert.KernelIdeal.Gru.run_main m ρ)

/-- From launches that agree on the arguments, with every token in range, kernel and reference end with the same logits. -/
theorem same_logits : Cert.algebraic_KernelIdeal_ReferenceIdeal_pre_tokens_in_range (hKernelIdeal := Cert.KernelIdeal.Gen.facts)
    (hReferenceIdeal := Cert.ReferenceIdeal.Gen.facts) (hPre_tokens_in_range := Cert.Pre_tokens_in_range.facts) := by
  intro m ρ m' ρ' hpre hagree
  have hx : ∀ c, Cert.KernelIdeal.Gru.InRange (Cert.KernelIdeal.Gru.argX m c) := fun c b t =>
    @Cert.Pre_tokens_in_range.tokens_lt Cert.Pre_tokens_in_range.facts _ _ _ _ _ _ _ (hpre c) b t
  have hx' : ∀ c, ∀ (b : Fin 64) (t : Fin 256), (Cert.ReferenceIdeal.Gru.argX m' c (ix2 b t)).toNat < 128 := fun c b t => by
    rw [show Cert.ReferenceIdeal.Gru.argX m' c = Cert.KernelIdeal.Gru.argX m c from (hagree c).1]
    exact hx c b t
  refine ⟨fun c => Cert.KernelIdeal.Gru.G m c, ?_, ?_⟩
  · exact (θ_run _ _ _).mono (fun r h c => ⟨h.1 c, h.2.1 c⟩) (θ_run_and (run_kernel m ρ hx) (Cert.KernelIdeal.Gru.frame m ρ))
  · refine (θ_run _ _ _).mono (fun r h c => ⟨(h c).1.trans ?_, (h c).2⟩) (Cert.ReferenceIdeal.Value.run (F := Ideal) m' ρ')
    refine (Cert.ReferenceIdeal.Gru.out_eq m' hx' c 256 rfl).trans ?_
    obtain ⟨h0, h1, h2, h3, h4, h5, h6⟩ := hagree c
    rw [show Cert.ReferenceIdeal.Gru.argX m' c = Cert.KernelIdeal.Gru.argX m c from h0,
      show Cert.ReferenceIdeal.Gru.argE m' c = Cert.KernelIdeal.Gru.argE m c from h1,
      show Cert.ReferenceIdeal.Gru.argK m' c = Cert.KernelIdeal.Gru.argK m c from h2,
      show Cert.ReferenceIdeal.Gru.argR m' c = Cert.KernelIdeal.Gru.argR m c from h3,
      show Cert.ReferenceIdeal.Gru.argB m' c = Cert.KernelIdeal.Gru.argB m c from h4,
      show Cert.ReferenceIdeal.Gru.argW m' c = Cert.KernelIdeal.Gru.argW m c from h5,
      show Cert.ReferenceIdeal.Gru.argD m' c = Cert.KernelIdeal.Gru.argD m c from h6]

/-- All five claims together. -/
theorem claim : Cert.Claim := ⟨Cert.Kernel.Gen.facts, Cert.KernelIdeal.Gen.facts, Cert.ReferenceIdeal.Gen.facts, Cert.Pre_tokens_in_range.facts,
  fun m ρ _ => Cert.Kernel.Gru.frame m ρ, fun m ρ _ => Cert.KernelIdeal.Gru.frame m ρ, fun m ρ _ => Cert.KernelIdeal.Gru.frame m ρ,
  frame_ref, fun m ρ _ => frame_ref m ρ trivial, trivial, same_logits⟩

end Cert.Proof

end
